-- ==== Defs.lean ====
def Pre_Transition (m : (ℓ : Loc Cert.Transition.nD Cert.Transition.τ Cert.Transition.sig) → Buf (Elt Bits) ℓ) : Prop :=
  True

def Pre_TransitionIdeal (m : (ℓ : Loc Cert.TransitionIdeal.nD Cert.TransitionIdeal.τ Cert.TransitionIdeal.sig) → Buf (Elt Ideal) ℓ) : Prop :=
  True

def Pre_TransitionRefIdeal (m : (ℓ : Loc Cert.TransitionRefIdeal.nD Cert.TransitionRefIdeal.τ Cert.TransitionRefIdeal.sig) → Buf (Elt Ideal) ℓ) : Prop :=
  True

def quiescent_Transition [hTransition : Cert.Transition.Facts] : Prop :=
  ∀ (m : (ℓ : Loc Cert.Transition.nD Cert.Transition.τ Cert.Transition.sig) → Buf (Elt Bits) ℓ) (g : Dev Cert.Transition.nD → PrngReg), Pre_Transition m →
    θ_run (Cert.Transition.defs (F := Bits)) (onTc (τ := Cert.Transition.τ) (Cert.Transition.main (F := Bits))) ⟨m, fun _ => 0, g⟩ (fun r => (∀ c : Dev Cert.Transition.nD,
      r.2.mem ((c.tc : Thread Cert.Transition.nD Cert.Transition.τ).loc Cert.Transition.main_arg0) = m ((c.tc : Thread Cert.Transition.nD Cert.Transition.τ).loc Cert.Transition.main_arg0)
      ∧ r.2.mem ((c.tc : Thread Cert.Transition.nD Cert.Transition.τ).loc Cert.Transition.main_arg1) = m ((c.tc : Thread Cert.Transition.nD Cert.Transition.τ).loc Cert.Transition.main_arg1)
      ∧ r.2.mem ((c.tc : Thread Cert.Transition.nD Cert.Transition.τ).loc Cert.Transition.main_arg2) = m ((c.tc : Thread Cert.Transition.nD Cert.Transition.τ).loc Cert.Transition.main_arg2)
      ∧ r.2.mem ((c.tc : Thread Cert.Transition.nD Cert.Transition.τ).loc Cert.Transition.main_arg3) = m ((c.tc : Thread Cert.Transition.nD Cert.Transition.τ).loc Cert.Transition.main_arg3)
      ∧ r.2.mem ((c.tc : Thread Cert.Transition.nD Cert.Transition.τ).loc Cert.Transition.main_arg4) = m ((c.tc : Thread Cert.Transition.nD Cert.Transition.τ).loc Cert.Transition.main_arg4)
      ∧ r.2.mem ((c.tc : Thread Cert.Transition.nD Cert.Transition.τ).loc Cert.Transition.main_arg5) = m ((c.tc : Thread Cert.Transition.nD Cert.Transition.τ).loc Cert.Transition.main_arg5)
      ∧ r.2.mem ((c.tc : Thread Cert.Transition.nD Cert.Transition.τ).loc Cert.Transition.main_arg6) = m ((c.tc : Thread Cert.Transition.nD Cert.Transition.τ).loc Cert.Transition.main_arg6)
      ∧ r.2.mem ((c.tc : Thread Cert.Transition.nD Cert.Transition.τ).loc Cert.Transition.main_arg7) = m ((c.tc : Thread Cert.Transition.nD Cert.Transition.τ).loc Cert.Transition.main_arg7)
      ∧ r.2.mem ((c.tc : Thread Cert.Transition.nD Cert.Transition.τ).loc Cert.Transition.main_arg8) = m ((c.tc : Thread Cert.Transition.nD Cert.Transition.τ).loc Cert.Transition.main_arg8)
      ∧ r.2.mem ((c.tc : Thread Cert.Transition.nD Cert.Transition.τ).loc Cert.Transition.main_arg9) = m ((c.tc : Thread Cert.Transition.nD Cert.Transition.τ).loc Cert.Transition.main_arg9)
      ∧ r.2.mem ((c.tc : Thread Cert.Transition.nD Cert.Transition.τ).loc Cert.Transition.main_arg10) = m ((c.tc : Thread Cert.Transition.nD Cert.Transition.τ).loc Cert.Transition.main_arg10)
      ∧ r.2.mem ((c.tc : Thread Cert.Transition.nD Cert.Transition.τ).loc Cert.Transition.main_arg11) = m ((c.tc : Thread Cert.Transition.nD Cert.Transition.τ).loc Cert.Transition.main_arg11)
      ∧ r.2.mem ((c.tc : Thread Cert.Transition.nD Cert.Transition.τ).loc Cert.Transition.main_arg12) = m ((c.tc : Thread Cert.Transition.nD Cert.Transition.τ).loc Cert.Transition.main_arg12)
      ∧ r.2.mem ((c.tc : Thread Cert.Transition.nD Cert.Transition.τ).loc Cert.Transition.main_arg13) = m ((c.tc : Thread Cert.Transition.nD Cert.Transition.τ).loc Cert.Transition.main_arg13))
      ∧ r.2.sem = fun _ => 0)

def quiescent_TransitionIdeal [hTransitionIdeal : Cert.TransitionIdeal.Facts] : Prop :=
  ∀ (m : (ℓ : Loc Cert.TransitionIdeal.nD Cert.TransitionIdeal.τ Cert.TransitionIdeal.sig) → Buf (Elt Ideal) ℓ) (g : Dev Cert.TransitionIdeal.nD → PrngReg), Pre_TransitionIdeal m →
    θ_run (Cert.TransitionIdeal.defs (F := Ideal)) (onTc (τ := Cert.TransitionIdeal.τ) (Cert.TransitionIdeal.main (F := Ideal))) ⟨m, fun _ => 0, g⟩ (fun r => (∀ c : Dev Cert.TransitionIdeal.nD,
      r.2.mem ((c.tc : Thread Cert.TransitionIdeal.nD Cert.TransitionIdeal.τ).loc Cert.TransitionIdeal.main_arg0) = m ((c.tc : Thread Cert.TransitionIdeal.nD Cert.TransitionIdeal.τ).loc Cert.TransitionIdeal.main_arg0)
      ∧ r.2.mem ((c.tc : Thread Cert.TransitionIdeal.nD Cert.TransitionIdeal.τ).loc Cert.TransitionIdeal.main_arg1) = m ((c.tc : Thread Cert.TransitionIdeal.nD Cert.TransitionIdeal.τ).loc Cert.TransitionIdeal.main_arg1)
      ∧ r.2.mem ((c.tc : Thread Cert.TransitionIdeal.nD Cert.TransitionIdeal.τ).loc Cert.TransitionIdeal.main_arg2) = m ((c.tc : Thread Cert.TransitionIdeal.nD Cert.TransitionIdeal.τ).loc Cert.TransitionIdeal.main_arg2)
      ∧ r.2.mem ((c.tc : Thread Cert.TransitionIdeal.nD Cert.TransitionIdeal.τ).loc Cert.TransitionIdeal.main_arg3) = m ((c.tc : Thread Cert.TransitionIdeal.nD Cert.TransitionIdeal.τ).loc Cert.TransitionIdeal.main_arg3)
      ∧ r.2.mem ((c.tc : Thread Cert.TransitionIdeal.nD Cert.TransitionIdeal.τ).loc Cert.TransitionIdeal.main_arg4) = m ((c.tc : Thread Cert.TransitionIdeal.nD Cert.TransitionIdeal.τ).loc Cert.TransitionIdeal.main_arg4)
      ∧ r.2.mem ((c.tc : Thread Cert.TransitionIdeal.nD Cert.TransitionIdeal.τ).loc Cert.TransitionIdeal.main_arg5) = m ((c.tc : Thread Cert.TransitionIdeal.nD Cert.TransitionIdeal.τ).loc Cert.TransitionIdeal.main_arg5)
      ∧ r.2.mem ((c.tc : Thread Cert.TransitionIdeal.nD Cert.TransitionIdeal.τ).loc Cert.TransitionIdeal.main_arg6) = m ((c.tc : Thread Cert.TransitionIdeal.nD Cert.TransitionIdeal.τ).loc Cert.TransitionIdeal.main_arg6)
      ∧ r.2.mem ((c.tc : Thread Cert.TransitionIdeal.nD Cert.TransitionIdeal.τ).loc Cert.TransitionIdeal.main_arg7) = m ((c.tc : Thread Cert.TransitionIdeal.nD Cert.TransitionIdeal.τ).loc Cert.TransitionIdeal.main_arg7)
      ∧ r.2.mem ((c.tc : Thread Cert.TransitionIdeal.nD Cert.TransitionIdeal.τ).loc Cert.TransitionIdeal.main_arg8) = m ((c.tc : Thread Cert.TransitionIdeal.nD Cert.TransitionIdeal.τ).loc Cert.TransitionIdeal.main_arg8)
      ∧ r.2.mem ((c.tc : Thread Cert.TransitionIdeal.nD Cert.TransitionIdeal.τ).loc Cert.TransitionIdeal.main_arg9) = m ((c.tc : Thread Cert.TransitionIdeal.nD Cert.TransitionIdeal.τ).loc Cert.TransitionIdeal.main_arg9)
      ∧ r.2.mem ((c.tc : Thread Cert.TransitionIdeal.nD Cert.TransitionIdeal.τ).loc Cert.TransitionIdeal.main_arg10) = m ((c.tc : Thread Cert.TransitionIdeal.nD Cert.TransitionIdeal.τ).loc Cert.TransitionIdeal.main_arg10)
      ∧ r.2.mem ((c.tc : Thread Cert.TransitionIdeal.nD Cert.TransitionIdeal.τ).loc Cert.TransitionIdeal.main_arg11) = m ((c.tc : Thread Cert.TransitionIdeal.nD Cert.TransitionIdeal.τ).loc Cert.TransitionIdeal.main_arg11)
      ∧ r.2.mem ((c.tc : Thread Cert.TransitionIdeal.nD Cert.TransitionIdeal.τ).loc Cert.TransitionIdeal.main_arg12) = m ((c.tc : Thread Cert.TransitionIdeal.nD Cert.TransitionIdeal.τ).loc Cert.TransitionIdeal.main_arg12)
      ∧ r.2.mem ((c.tc : Thread Cert.TransitionIdeal.nD Cert.TransitionIdeal.τ).loc Cert.TransitionIdeal.main_arg13) = m ((c.tc : Thread Cert.TransitionIdeal.nD Cert.TransitionIdeal.τ).loc Cert.TransitionIdeal.main_arg13))
      ∧ r.2.sem = fun _ => 0)

def quiescent_TransitionRefIdeal [hTransitionRefIdeal : Cert.TransitionRefIdeal.Facts] : Prop :=
  ∀ (m : (ℓ : Loc Cert.TransitionRefIdeal.nD Cert.TransitionRefIdeal.τ Cert.TransitionRefIdeal.sig) → Buf (Elt Ideal) ℓ) (g : Dev Cert.TransitionRefIdeal.nD → PrngReg), Pre_TransitionRefIdeal m →
    θ_run (Cert.TransitionRefIdeal.defs (F := Ideal)) (onTc (τ := Cert.TransitionRefIdeal.τ) (Cert.TransitionRefIdeal.main (F := Ideal))) ⟨m, fun _ => 0, g⟩ (fun r => (∀ c : Dev Cert.TransitionRefIdeal.nD,
      r.2.mem ((c.tc : Thread Cert.TransitionRefIdeal.nD Cert.TransitionRefIdeal.τ).loc Cert.TransitionRefIdeal.main_arg0) = m ((c.tc : Thread Cert.TransitionRefIdeal.nD Cert.TransitionRefIdeal.τ).loc Cert.TransitionRefIdeal.main_arg0)
      ∧ r.2.mem ((c.tc : Thread Cert.TransitionRefIdeal.nD Cert.TransitionRefIdeal.τ).loc Cert.TransitionRefIdeal.main_arg1) = m ((c.tc : Thread Cert.TransitionRefIdeal.nD Cert.TransitionRefIdeal.τ).loc Cert.TransitionRefIdeal.main_arg1)
      ∧ r.2.mem ((c.tc : Thread Cert.TransitionRefIdeal.nD Cert.TransitionRefIdeal.τ).loc Cert.TransitionRefIdeal.main_arg2) = m ((c.tc : Thread Cert.TransitionRefIdeal.nD Cert.TransitionRefIdeal.τ).loc Cert.TransitionRefIdeal.main_arg2)
      ∧ r.2.mem ((c.tc : Thread Cert.TransitionRefIdeal.nD Cert.TransitionRefIdeal.τ).loc Cert.TransitionRefIdeal.main_arg3) = m ((c.tc : Thread Cert.TransitionRefIdeal.nD Cert.TransitionRefIdeal.τ).loc Cert.TransitionRefIdeal.main_arg3)
      ∧ r.2.mem ((c.tc : Thread Cert.TransitionRefIdeal.nD Cert.TransitionRefIdeal.τ).loc Cert.TransitionRefIdeal.main_arg4) = m ((c.tc : Thread Cert.TransitionRefIdeal.nD Cert.TransitionRefIdeal.τ).loc Cert.TransitionRefIdeal.main_arg4)
      ∧ r.2.mem ((c.tc : Thread Cert.TransitionRefIdeal.nD Cert.TransitionRefIdeal.τ).loc Cert.TransitionRefIdeal.main_arg5) = m ((c.tc : Thread Cert.TransitionRefIdeal.nD Cert.TransitionRefIdeal.τ).loc Cert.TransitionRefIdeal.main_arg5)
      ∧ r.2.mem ((c.tc : Thread Cert.TransitionRefIdeal.nD Cert.TransitionRefIdeal.τ).loc Cert.TransitionRefIdeal.main_arg6) = m ((c.tc : Thread Cert.TransitionRefIdeal.nD Cert.TransitionRefIdeal.τ).loc Cert.TransitionRefIdeal.main_arg6)
      ∧ r.2.mem ((c.tc : Thread Cert.TransitionRefIdeal.nD Cert.TransitionRefIdeal.τ).loc Cert.TransitionRefIdeal.main_arg7) = m ((c.tc : Thread Cert.TransitionRefIdeal.nD Cert.TransitionRefIdeal.τ).loc Cert.TransitionRefIdeal.main_arg7)
      ∧ r.2.mem ((c.tc : Thread Cert.TransitionRefIdeal.nD Cert.TransitionRefIdeal.τ).loc Cert.TransitionRefIdeal.main_arg8) = m ((c.tc : Thread Cert.TransitionRefIdeal.nD Cert.TransitionRefIdeal.τ).loc Cert.TransitionRefIdeal.main_arg8)
      ∧ r.2.mem ((c.tc : Thread Cert.TransitionRefIdeal.nD Cert.TransitionRefIdeal.τ).loc Cert.TransitionRefIdeal.main_arg9) = m ((c.tc : Thread Cert.TransitionRefIdeal.nD Cert.TransitionRefIdeal.τ).loc Cert.TransitionRefIdeal.main_arg9)
      ∧ r.2.mem ((c.tc : Thread Cert.TransitionRefIdeal.nD Cert.TransitionRefIdeal.τ).loc Cert.TransitionRefIdeal.main_arg10) = m ((c.tc : Thread Cert.TransitionRefIdeal.nD Cert.TransitionRefIdeal.τ).loc Cert.TransitionRefIdeal.main_arg10)
      ∧ r.2.mem ((c.tc : Thread Cert.TransitionRefIdeal.nD Cert.TransitionRefIdeal.τ).loc Cert.TransitionRefIdeal.main_arg11) = m ((c.tc : Thread Cert.TransitionRefIdeal.nD Cert.TransitionRefIdeal.τ).loc Cert.TransitionRefIdeal.main_arg11)
      ∧ r.2.mem ((c.tc : Thread Cert.TransitionRefIdeal.nD Cert.TransitionRefIdeal.τ).loc Cert.TransitionRefIdeal.main_arg12) = m ((c.tc : Thread Cert.TransitionRefIdeal.nD Cert.TransitionRefIdeal.τ).loc Cert.TransitionRefIdeal.main_arg12)
      ∧ r.2.mem ((c.tc : Thread Cert.TransitionRefIdeal.nD Cert.TransitionRefIdeal.τ).loc Cert.TransitionRefIdeal.main_arg13) = m ((c.tc : Thread Cert.TransitionRefIdeal.nD Cert.TransitionRefIdeal.τ).loc Cert.TransitionRefIdeal.main_arg13))
      ∧ r.2.sem = fun _ => 0)

def preserves_Transition_TransitionIdeal : Prop :=
  True

def algebraic_TransitionIdeal_TransitionRefIdeal [hTransitionIdeal : Cert.TransitionIdeal.Facts] [hTransitionRefIdeal : Cert.TransitionRefIdeal.Facts] : Prop :=
  ∀ (m : (ℓ : Loc Cert.TransitionIdeal.nD Cert.TransitionIdeal.τ Cert.TransitionIdeal.sig) → Buf (Elt Ideal) ℓ) (g : Dev Cert.TransitionIdeal.nD → PrngReg)
    (m' : (ℓ : Loc Cert.TransitionRefIdeal.nD Cert.TransitionRefIdeal.τ Cert.TransitionRefIdeal.sig) → Buf (Elt Ideal) ℓ) (g' : Dev Cert.TransitionRefIdeal.nD → PrngReg), Pre_TransitionIdeal m →
    (∀ c : Dev Cert.TransitionIdeal.nD,
      m' ((c.tc : Thread Cert.TransitionRefIdeal.nD Cert.TransitionRefIdeal.τ).loc Cert.TransitionRefIdeal.main_arg0) = m ((c.tc : Thread Cert.TransitionIdeal.nD Cert.TransitionIdeal.τ).loc Cert.TransitionIdeal.main_arg0)
      ∧ m' ((c.tc : Thread Cert.TransitionRefIdeal.nD Cert.TransitionRefIdeal.τ).loc Cert.TransitionRefIdeal.main_arg1) = m ((c.tc : Thread Cert.TransitionIdeal.nD Cert.TransitionIdeal.τ).loc Cert.TransitionIdeal.main_arg1)
      ∧ m' ((c.tc : Thread Cert.TransitionRefIdeal.nD Cert.TransitionRefIdeal.τ).loc Cert.TransitionRefIdeal.main_arg2) = m ((c.tc : Thread Cert.TransitionIdeal.nD Cert.TransitionIdeal.τ).loc Cert.TransitionIdeal.main_arg2)
      ∧ m' ((c.tc : Thread Cert.TransitionRefIdeal.nD Cert.TransitionRefIdeal.τ).loc Cert.TransitionRefIdeal.main_arg3) = m ((c.tc : Thread Cert.TransitionIdeal.nD Cert.TransitionIdeal.τ).loc Cert.TransitionIdeal.main_arg3)
      ∧ m' ((c.tc : Thread Cert.TransitionRefIdeal.nD Cert.TransitionRefIdeal.τ).loc Cert.TransitionRefIdeal.main_arg4) = m ((c.tc : Thread Cert.TransitionIdeal.nD Cert.TransitionIdeal.τ).loc Cert.TransitionIdeal.main_arg4)
      ∧ m' ((c.tc : Thread Cert.TransitionRefIdeal.nD Cert.TransitionRefIdeal.τ).loc Cert.TransitionRefIdeal.main_arg5) = m ((c.tc : Thread Cert.TransitionIdeal.nD Cert.TransitionIdeal.τ).loc Cert.TransitionIdeal.main_arg5)
      ∧ m' ((c.tc : Thread Cert.TransitionRefIdeal.nD Cert.TransitionRefIdeal.τ).loc Cert.TransitionRefIdeal.main_arg6) = m ((c.tc : Thread Cert.TransitionIdeal.nD Cert.TransitionIdeal.τ).loc Cert.TransitionIdeal.main_arg6)
      ∧ m' ((c.tc : Thread Cert.TransitionRefIdeal.nD Cert.TransitionRefIdeal.τ).loc Cert.TransitionRefIdeal.main_arg7) = m ((c.tc : Thread Cert.TransitionIdeal.nD Cert.TransitionIdeal.τ).loc Cert.TransitionIdeal.main_arg7)
      ∧ m' ((c.tc : Thread Cert.TransitionRefIdeal.nD Cert.TransitionRefIdeal.τ).loc Cert.TransitionRefIdeal.main_arg8) = m ((c.tc : Thread Cert.TransitionIdeal.nD Cert.TransitionIdeal.τ).loc Cert.TransitionIdeal.main_arg8)
      ∧ m' ((c.tc : Thread Cert.TransitionRefIdeal.nD Cert.TransitionRefIdeal.τ).loc Cert.TransitionRefIdeal.main_arg9) = m ((c.tc : Thread Cert.TransitionIdeal.nD Cert.TransitionIdeal.τ).loc Cert.TransitionIdeal.main_arg9)
      ∧ m' ((c.tc : Thread Cert.TransitionRefIdeal.nD Cert.TransitionRefIdeal.τ).loc Cert.TransitionRefIdeal.main_arg10) = m ((c.tc : Thread Cert.TransitionIdeal.nD Cert.TransitionIdeal.τ).loc Cert.TransitionIdeal.main_arg10)
      ∧ m' ((c.tc : Thread Cert.TransitionRefIdeal.nD Cert.TransitionRefIdeal.τ).loc Cert.TransitionRefIdeal.main_arg11) = m ((c.tc : Thread Cert.TransitionIdeal.nD Cert.TransitionIdeal.τ).loc Cert.TransitionIdeal.main_arg11)
      ∧ m' ((c.tc : Thread Cert.TransitionRefIdeal.nD Cert.TransitionRefIdeal.τ).loc Cert.TransitionRefIdeal.main_arg12) = m ((c.tc : Thread Cert.TransitionIdeal.nD Cert.TransitionIdeal.τ).loc Cert.TransitionIdeal.main_arg12)
      ∧ m' ((c.tc : Thread Cert.TransitionRefIdeal.nD Cert.TransitionRefIdeal.τ).loc Cert.TransitionRefIdeal.main_arg13) = m ((c.tc : Thread Cert.TransitionIdeal.nD Cert.TransitionIdeal.τ).loc Cert.TransitionIdeal.main_arg13)) →
    ∃ (v0 : (c : Dev Cert.TransitionIdeal.nD) → Buf (Elt Ideal) ((c.tc : Thread Cert.TransitionIdeal.nD Cert.TransitionIdeal.τ).loc Cert.TransitionIdeal.main_v5_0)) (v1 : (c : Dev Cert.TransitionIdeal.nD) → Buf (Elt Ideal) ((c.tc : Thread Cert.TransitionIdeal.nD Cert.TransitionIdeal.τ).loc Cert.TransitionIdeal.main_v5_1)) (v2 : (c : Dev Cert.TransitionIdeal.nD) → Buf (Elt Ideal) ((c.tc : Thread Cert.TransitionIdeal.nD Cert.TransitionIdeal.τ).loc Cert.TransitionIdeal.main_v5_2)) (v3 : (c : Dev Cert.TransitionIdeal.nD) → Buf (Elt Ideal) ((c.tc : Thread Cert.TransitionIdeal.nD Cert.TransitionIdeal.τ).loc Cert.TransitionIdeal.main_v5_3)) (v4 : (c : Dev Cert.TransitionIdeal.nD) → Buf (Elt Ideal) ((c.tc : Thread Cert.TransitionIdeal.nD Cert.TransitionIdeal.τ).loc Cert.TransitionIdeal.main_v5_4)) (v5 : (c : Dev Cert.TransitionIdeal.nD) → Buf (Elt Ideal) ((c.tc : Thread Cert.TransitionIdeal.nD Cert.TransitionIdeal.τ).loc Cert.TransitionIdeal.main_v5_5)) (v6 : (c : Dev Cert.TransitionIdeal.nD) → Buf (Elt Ideal) ((c.tc : Thread Cert.TransitionIdeal.nD Cert.TransitionIdeal.τ).loc Cert.TransitionIdeal.main_v5_6)) (v7 : (c : Dev Cert.TransitionIdeal.nD) → Buf (Elt Ideal) ((c.tc : Thread Cert.TransitionIdeal.nD Cert.TransitionIdeal.τ).loc Cert.TransitionIdeal.main_v5_7)),
      θ_run (Cert.TransitionIdeal.defs (F := Ideal)) (onTc (τ := Cert.TransitionIdeal.τ) (Cert.TransitionIdeal.main (F := Ideal))) ⟨m, fun _ => 0, g⟩ (fun r => ∀ c : Dev Cert.TransitionIdeal.nD,
          r.2.mem ((c.tc : Thread Cert.TransitionIdeal.nD Cert.TransitionIdeal.τ).loc Cert.TransitionIdeal.main_v5_0) = v0 c
          ∧ r.2.mem ((c.tc : Thread Cert.TransitionIdeal.nD Cert.TransitionIdeal.τ).loc Cert.TransitionIdeal.main_v5_1) = v1 c
          ∧ r.2.mem ((c.tc : Thread Cert.TransitionIdeal.nD Cert.TransitionIdeal.τ).loc Cert.TransitionIdeal.main_v5_2) = v2 c
          ∧ r.2.mem ((c.tc : Thread Cert.TransitionIdeal.nD Cert.TransitionIdeal.τ).loc Cert.TransitionIdeal.main_v5_3) = v3 c
          ∧ r.2.mem ((c.tc : Thread Cert.TransitionIdeal.nD Cert.TransitionIdeal.τ).loc Cert.TransitionIdeal.main_v5_4) = v4 c
          ∧ r.2.mem ((c.tc : Thread Cert.TransitionIdeal.nD Cert.TransitionIdeal.τ).loc Cert.TransitionIdeal.main_v5_5) = v5 c
          ∧ r.2.mem ((c.tc : Thread Cert.TransitionIdeal.nD Cert.TransitionIdeal.τ).loc Cert.TransitionIdeal.main_v5_6) = v6 c
          ∧ r.2.mem ((c.tc : Thread Cert.TransitionIdeal.nD Cert.TransitionIdeal.τ).loc Cert.TransitionIdeal.main_v5_7) = v7 c
          ∧ r.2.mem ((c.tc : Thread Cert.TransitionIdeal.nD Cert.TransitionIdeal.τ).loc Cert.TransitionIdeal.main_arg0) = m ((c.tc : Thread Cert.TransitionIdeal.nD Cert.TransitionIdeal.τ).loc Cert.TransitionIdeal.main_arg0)
          ∧ r.2.mem ((c.tc : Thread Cert.TransitionIdeal.nD Cert.TransitionIdeal.τ).loc Cert.TransitionIdeal.main_arg1) = m ((c.tc : Thread Cert.TransitionIdeal.nD Cert.TransitionIdeal.τ).loc Cert.TransitionIdeal.main_arg1)
          ∧ r.2.mem ((c.tc : Thread Cert.TransitionIdeal.nD Cert.TransitionIdeal.τ).loc Cert.TransitionIdeal.main_arg2) = m ((c.tc : Thread Cert.TransitionIdeal.nD Cert.TransitionIdeal.τ).loc Cert.TransitionIdeal.main_arg2)
          ∧ r.2.mem ((c.tc : Thread Cert.TransitionIdeal.nD Cert.TransitionIdeal.τ).loc Cert.TransitionIdeal.main_arg3) = m ((c.tc : Thread Cert.TransitionIdeal.nD Cert.TransitionIdeal.τ).loc Cert.TransitionIdeal.main_arg3)
          ∧ r.2.mem ((c.tc : Thread Cert.TransitionIdeal.nD Cert.TransitionIdeal.τ).loc Cert.TransitionIdeal.main_arg4) = m ((c.tc : Thread Cert.TransitionIdeal.nD Cert.TransitionIdeal.τ).loc Cert.TransitionIdeal.main_arg4)
          ∧ r.2.mem ((c.tc : Thread Cert.TransitionIdeal.nD Cert.TransitionIdeal.τ).loc Cert.TransitionIdeal.main_arg5) = m ((c.tc : Thread Cert.TransitionIdeal.nD Cert.TransitionIdeal.τ).loc Cert.TransitionIdeal.main_arg5)
          ∧ r.2.mem ((c.tc : Thread Cert.TransitionIdeal.nD Cert.TransitionIdeal.τ).loc Cert.TransitionIdeal.main_arg6) = m ((c.tc : Thread Cert.TransitionIdeal.nD Cert.TransitionIdeal.τ).loc Cert.TransitionIdeal.main_arg6)
          ∧ r.2.mem ((c.tc : Thread Cert.TransitionIdeal.nD Cert.TransitionIdeal.τ).loc Cert.TransitionIdeal.main_arg7) = m ((c.tc : Thread Cert.TransitionIdeal.nD Cert.TransitionIdeal.τ).loc Cert.TransitionIdeal.main_arg7)
          ∧ r.2.mem ((c.tc : Thread Cert.TransitionIdeal.nD Cert.TransitionIdeal.τ).loc Cert.TransitionIdeal.main_arg8) = m ((c.tc : Thread Cert.TransitionIdeal.nD Cert.TransitionIdeal.τ).loc Cert.TransitionIdeal.main_arg8)
          ∧ r.2.mem ((c.tc : Thread Cert.TransitionIdeal.nD Cert.TransitionIdeal.τ).loc Cert.TransitionIdeal.main_arg9) = m ((c.tc : Thread Cert.TransitionIdeal.nD Cert.TransitionIdeal.τ).loc Cert.TransitionIdeal.main_arg9)
          ∧ r.2.mem ((c.tc : Thread Cert.TransitionIdeal.nD Cert.TransitionIdeal.τ).loc Cert.TransitionIdeal.main_arg10) = m ((c.tc : Thread Cert.TransitionIdeal.nD Cert.TransitionIdeal.τ).loc Cert.TransitionIdeal.main_arg10)
          ∧ r.2.mem ((c.tc : Thread Cert.TransitionIdeal.nD Cert.TransitionIdeal.τ).loc Cert.TransitionIdeal.main_arg11) = m ((c.tc : Thread Cert.TransitionIdeal.nD Cert.TransitionIdeal.τ).loc Cert.TransitionIdeal.main_arg11)
          ∧ r.2.mem ((c.tc : Thread Cert.TransitionIdeal.nD Cert.TransitionIdeal.τ).loc Cert.TransitionIdeal.main_arg12) = m ((c.tc : Thread Cert.TransitionIdeal.nD Cert.TransitionIdeal.τ).loc Cert.TransitionIdeal.main_arg12)
          ∧ r.2.mem ((c.tc : Thread Cert.TransitionIdeal.nD Cert.TransitionIdeal.τ).loc Cert.TransitionIdeal.main_arg13) = m ((c.tc : Thread Cert.TransitionIdeal.nD Cert.TransitionIdeal.τ).loc Cert.TransitionIdeal.main_arg13))
      ∧ θ_run (Cert.TransitionRefIdeal.defs (F := Ideal)) (onTc (τ := Cert.TransitionRefIdeal.τ) (Cert.TransitionRefIdeal.main (F := Ideal))) ⟨m', fun _ => 0, g'⟩ (fun r => ∀ c : Dev Cert.TransitionRefIdeal.nD,
          r.2.mem ((c.tc : Thread Cert.TransitionRefIdeal.nD Cert.TransitionRefIdeal.τ).loc Cert.TransitionRefIdeal.main_v0_0) = v0 c
          ∧ r.2.mem ((c.tc : Thread Cert.TransitionRefIdeal.nD Cert.TransitionRefIdeal.τ).loc Cert.TransitionRefIdeal.main_v0_1) = v1 c
          ∧ r.2.mem ((c.tc : Thread Cert.TransitionRefIdeal.nD Cert.TransitionRefIdeal.τ).loc Cert.TransitionRefIdeal.main_v0_2) = v2 c
          ∧ r.2.mem ((c.tc : Thread Cert.TransitionRefIdeal.nD Cert.TransitionRefIdeal.τ).loc Cert.TransitionRefIdeal.main_v0_3) = v3 c
          ∧ r.2.mem ((c.tc : Thread Cert.TransitionRefIdeal.nD Cert.TransitionRefIdeal.τ).loc Cert.TransitionRefIdeal.main_v0_4) = v4 c
          ∧ r.2.mem ((c.tc : Thread Cert.TransitionRefIdeal.nD Cert.TransitionRefIdeal.τ).loc Cert.TransitionRefIdeal.main_v0_5) = v5 c
          ∧ r.2.mem ((c.tc : Thread Cert.TransitionRefIdeal.nD Cert.TransitionRefIdeal.τ).loc Cert.TransitionRefIdeal.main_v0_6) = v6 c
          ∧ r.2.mem ((c.tc : Thread Cert.TransitionRefIdeal.nD Cert.TransitionRefIdeal.τ).loc Cert.TransitionRefIdeal.main_v0_7) = v7 c
          ∧ r.2.mem ((c.tc : Thread Cert.TransitionRefIdeal.nD Cert.TransitionRefIdeal.τ).loc Cert.TransitionRefIdeal.main_arg0) = m' ((c.tc : Thread Cert.TransitionRefIdeal.nD Cert.TransitionRefIdeal.τ).loc Cert.TransitionRefIdeal.main_arg0)
          ∧ r.2.mem ((c.tc : Thread Cert.TransitionRefIdeal.nD Cert.TransitionRefIdeal.τ).loc Cert.TransitionRefIdeal.main_arg1) = m' ((c.tc : Thread Cert.TransitionRefIdeal.nD Cert.TransitionRefIdeal.τ).loc Cert.TransitionRefIdeal.main_arg1)
          ∧ r.2.mem ((c.tc : Thread Cert.TransitionRefIdeal.nD Cert.TransitionRefIdeal.τ).loc Cert.TransitionRefIdeal.main_arg2) = m' ((c.tc : Thread Cert.TransitionRefIdeal.nD Cert.TransitionRefIdeal.τ).loc Cert.TransitionRefIdeal.main_arg2)
          ∧ r.2.mem ((c.tc : Thread Cert.TransitionRefIdeal.nD Cert.TransitionRefIdeal.τ).loc Cert.TransitionRefIdeal.main_arg3) = m' ((c.tc : Thread Cert.TransitionRefIdeal.nD Cert.TransitionRefIdeal.τ).loc Cert.TransitionRefIdeal.main_arg3)
          ∧ r.2.mem ((c.tc : Thread Cert.TransitionRefIdeal.nD Cert.TransitionRefIdeal.τ).loc Cert.TransitionRefIdeal.main_arg4) = m' ((c.tc : Thread Cert.TransitionRefIdeal.nD Cert.TransitionRefIdeal.τ).loc Cert.TransitionRefIdeal.main_arg4)
          ∧ r.2.mem ((c.tc : Thread Cert.TransitionRefIdeal.nD Cert.TransitionRefIdeal.τ).loc Cert.TransitionRefIdeal.main_arg5) = m' ((c.tc : Thread Cert.TransitionRefIdeal.nD Cert.TransitionRefIdeal.τ).loc Cert.TransitionRefIdeal.main_arg5)
          ∧ r.2.mem ((c.tc : Thread Cert.TransitionRefIdeal.nD Cert.TransitionRefIdeal.τ).loc Cert.TransitionRefIdeal.main_arg6) = m' ((c.tc : Thread Cert.TransitionRefIdeal.nD Cert.TransitionRefIdeal.τ).loc Cert.TransitionRefIdeal.main_arg6)
          ∧ r.2.mem ((c.tc : Thread Cert.TransitionRefIdeal.nD Cert.TransitionRefIdeal.τ).loc Cert.TransitionRefIdeal.main_arg7) = m' ((c.tc : Thread Cert.TransitionRefIdeal.nD Cert.TransitionRefIdeal.τ).loc Cert.TransitionRefIdeal.main_arg7)
          ∧ r.2.mem ((c.tc : Thread Cert.TransitionRefIdeal.nD Cert.TransitionRefIdeal.τ).loc Cert.TransitionRefIdeal.main_arg8) = m' ((c.tc : Thread Cert.TransitionRefIdeal.nD Cert.TransitionRefIdeal.τ).loc Cert.TransitionRefIdeal.main_arg8)
          ∧ r.2.mem ((c.tc : Thread Cert.TransitionRefIdeal.nD Cert.TransitionRefIdeal.τ).loc Cert.TransitionRefIdeal.main_arg9) = m' ((c.tc : Thread Cert.TransitionRefIdeal.nD Cert.TransitionRefIdeal.τ).loc Cert.TransitionRefIdeal.main_arg9)
          ∧ r.2.mem ((c.tc : Thread Cert.TransitionRefIdeal.nD Cert.TransitionRefIdeal.τ).loc Cert.TransitionRefIdeal.main_arg10) = m' ((c.tc : Thread Cert.TransitionRefIdeal.nD Cert.TransitionRefIdeal.τ).loc Cert.TransitionRefIdeal.main_arg10)
          ∧ r.2.mem ((c.tc : Thread Cert.TransitionRefIdeal.nD Cert.TransitionRefIdeal.τ).loc Cert.TransitionRefIdeal.main_arg11) = m' ((c.tc : Thread Cert.TransitionRefIdeal.nD Cert.TransitionRefIdeal.τ).loc Cert.TransitionRefIdeal.main_arg11)
          ∧ r.2.mem ((c.tc : Thread Cert.TransitionRefIdeal.nD Cert.TransitionRefIdeal.τ).loc Cert.TransitionRefIdeal.main_arg12) = m' ((c.tc : Thread Cert.TransitionRefIdeal.nD Cert.TransitionRefIdeal.τ).loc Cert.TransitionRefIdeal.main_arg12)
          ∧ r.2.mem ((c.tc : Thread Cert.TransitionRefIdeal.nD Cert.TransitionRefIdeal.τ).loc Cert.TransitionRefIdeal.main_arg13) = m' ((c.tc : Thread Cert.TransitionRefIdeal.nD Cert.TransitionRefIdeal.τ).loc Cert.TransitionRefIdeal.main_arg13))

def Claim : Prop :=
  ∃ (hTransition : Cert.Transition.Facts) (hTransitionIdeal : Cert.TransitionIdeal.Facts) (hTransitionRefIdeal : Cert.TransitionRefIdeal.Facts),
    quiescent_Transition (hTransition := hTransition)
    ∧ quiescent_TransitionIdeal (hTransitionIdeal := hTransitionIdeal)
    ∧ quiescent_TransitionRefIdeal (hTransitionRefIdeal := hTransitionRefIdeal)
    ∧ preserves_Transition_TransitionIdeal
    ∧ algebraic_TransitionIdeal_TransitionRefIdeal (hTransitionIdeal := hTransitionIdeal) (hTransitionRefIdeal := hTransitionRefIdeal)
-- ==== Transition.lean ====
abbrev S3x16x48x640 : Shape := ⟨4, ![3, 16, 48, 640]⟩
abbrev S3x640x768 : Shape := ⟨3, ![3, 640, 768]⟩
abbrev S3x640x384 : Shape := ⟨3, ![3, 640, 384]⟩
abbrev S384 : Shape := ⟨1, ![384]⟩
abbrev S384x2x768 : Shape := ⟨3, ![384, 2, 768]⟩
abbrev S2x768 : Shape := ⟨2, ![2, 768]⟩
abbrev S768 : Shape := ⟨1, ![768]⟩
abbrev S16x48x768 : Shape := ⟨3, ![16, 48, 768]⟩
abbrev S768x2x1536 : Shape := ⟨3, ![768, 2, 1536]⟩
abbrev S2x1536 : Shape := ⟨2, ![2, 1536]⟩
abbrev S1536x768 : Shape := ⟨2, ![1536, 768]⟩
abbrev S1x384 : Shape := ⟨2, ![1, 384]⟩
abbrev S1x768 : Shape := ⟨2, ![1, 768]⟩
abbrev S2x768x1536 : Shape := ⟨3, ![2, 768, 1536]⟩
abbrev S3x640 : Shape := ⟨2, ![3, 640]⟩
abbrev S3x640x1536 : Shape := ⟨3, ![3, 640, 1536]⟩
abbrev S1x16x48x640 : Shape := ⟨4, ![1, 16, 48, 640]⟩
abbrev S1x640x768 : Shape := ⟨3, ![1, 640, 768]⟩
abbrev S1x640x384 : Shape := ⟨3, ![1, 640, 384]⟩
abbrev S1x640x1536 : Shape := ⟨3, ![1, 640, 1536]⟩
abbrev S2x384x768 : Shape := ⟨3, ![2, 384, 768]⟩
abbrev S384x1x768 : Shape := ⟨3, ![384, 1, 768]⟩
abbrev S384x768 : Shape := ⟨2, ![384, 768]⟩
abbrev S1x384x768 : Shape := ⟨3, ![1, 384, 768]⟩
abbrev S16x48x640 : Shape := ⟨3, ![16, 48, 640]⟩
abbrev S48x640 : Shape := ⟨2, ![48, 640]⟩
abbrev S640 : Shape := ⟨1, ![640]⟩
abbrev S1x640 : Shape := ⟨2, ![1, 640]⟩
abbrev S1x1x640 : Shape := ⟨3, ![1, 1, 640]⟩
abbrev S640x384 : Shape := ⟨2, ![640, 384]⟩
abbrev S768x640 : Shape := ⟨2, ![768, 640]⟩
abbrev S768x768 : Shape := ⟨2, ![768, 768]⟩
abbrev S640x768 : Shape := ⟨2, ![640, 768]⟩
abbrev S128x640 : Shape := ⟨2, ![128, 640]⟩
abbrev S640x128 : Shape := ⟨2, ![640, 128]⟩
abbrev S640x1 : Shape := ⟨2, ![640, 1]⟩
abbrev S1x768x1536 : Shape := ⟨3, ![1, 768, 1536]⟩
abbrev S768x1536 : Shape := ⟨2, ![768, 1536]⟩
abbrev S640x1536 : Shape := ⟨2, ![640, 1536]⟩
abbrev S1x1536 : Shape := ⟨2, ![1, 1536]⟩

abbrev nBuf : Space → Nat
  | .hbm => 27
  | .vmem => 32
  | .smem => 0
  | _ => 0

abbrev bufTy : (tb : Table) → Fin (tcTables nBuf tb) → BufTy
  | .hbm, ⟨0, _⟩ => ⟨S3x16x48x640, .f32⟩
  | .hbm, ⟨1, _⟩ => ⟨S3x640x768, .bf16⟩
  | .hbm, ⟨2, _⟩ => ⟨S3x640x384, .bf16⟩
  | .hbm, ⟨3, _⟩ => ⟨S384, .f32⟩
  | .hbm, ⟨4, _⟩ => ⟨S384x2x768, .bf16⟩
  | .hbm, ⟨5, _⟩ => ⟨S2x768, .f32⟩
  | .hbm, ⟨6, _⟩ => ⟨S384x2x768, .bf16⟩
  | .hbm, ⟨7, _⟩ => ⟨S768, .f32⟩
  | .hbm, ⟨8, _⟩ => ⟨S16x48x768, .fp8e4m3⟩
  | .hbm, ⟨9, _⟩ => ⟨S768, .f32⟩
  | .hbm, ⟨10, _⟩ => ⟨S768x2x1536, .fp8e4m3⟩
  | .hbm, ⟨11, _⟩ => ⟨S2x1536, .f32⟩
  | .hbm, ⟨12, _⟩ => ⟨S1536x768, .fp8e4m3⟩
  | .hbm, ⟨13, _⟩ => ⟨S768, .f32⟩
  | .hbm, ⟨14, _⟩ => ⟨S1x384, .f32⟩
  | .hbm, ⟨15, _⟩ => ⟨S1x768, .f32⟩
  | .hbm, ⟨16, _⟩ => ⟨S1x768, .f32⟩
  | .hbm, ⟨17, _⟩ => ⟨S2x768x1536, .fp8e4m3⟩
  | .hbm, ⟨18, _⟩ => ⟨S1x768, .f32⟩
  | .hbm, ⟨19, _⟩ => ⟨S3x640x768, .bf16⟩
  | .hbm, ⟨20, _⟩ => ⟨S3x640x768, .f32⟩
  | .hbm, ⟨21, _⟩ => ⟨S3x16x48x640, .fp8e4m3⟩
  | .hbm, ⟨22, _⟩ => ⟨S3x640, .f32⟩
  | .hbm, ⟨23, _⟩ => ⟨S3x640x768, .fp8e4m3⟩
  | .hbm, ⟨24, _⟩ => ⟨S3x640, .f32⟩
  | .hbm, ⟨25, _⟩ => ⟨S3x640x1536, .fp8e4m3⟩
  | .hbm, ⟨26, _⟩ => ⟨S3x640, .f32⟩
  | .local _ .vmem, ⟨0, _⟩ => ⟨S1x16x48x640, .f32⟩
  | .local _ .vmem, ⟨1, _⟩ => ⟨S1x16x48x640, .f32⟩
  | .local _ .vmem, ⟨2, _⟩ => ⟨S1x640x768, .bf16⟩
  | .local _ .vmem, ⟨3, _⟩ => ⟨S1x640x768, .bf16⟩
  | .local _ .vmem, ⟨4, _⟩ => ⟨S1x640x384, .bf16⟩
  | .local _ .vmem, ⟨5, _⟩ => ⟨S1x640x384, .bf16⟩
  | .local _ .vmem, ⟨6, _⟩ => ⟨S1x384, .f32⟩
  | .local _ .vmem, ⟨7, _⟩ => ⟨S384x2x768, .bf16⟩
  | .local _ .vmem, ⟨8, _⟩ => ⟨S2x768, .f32⟩
  | .local _ .vmem, ⟨9, _⟩ => ⟨S384x2x768, .bf16⟩
  | .local _ .vmem, ⟨10, _⟩ => ⟨S1x768, .f32⟩
  | .local _ .vmem, ⟨11, _⟩ => ⟨S16x48x768, .fp8e4m3⟩
  | .local _ .vmem, ⟨12, _⟩ => ⟨S1x768, .f32⟩
  | .local _ .vmem, ⟨13, _⟩ => ⟨S2x768x1536, .fp8e4m3⟩
  | .local _ .vmem, ⟨14, _⟩ => ⟨S2x1536, .f32⟩
  | .local _ .vmem, ⟨15, _⟩ => ⟨S1536x768, .fp8e4m3⟩
  | .local _ .vmem, ⟨16, _⟩ => ⟨S1x768, .f32⟩
  | .local _ .vmem, ⟨17, _⟩ => ⟨S1x640x768, .bf16⟩
  | .local _ .vmem, ⟨18, _⟩ => ⟨S1x640x768, .bf16⟩
  | .local _ .vmem, ⟨19, _⟩ => ⟨S1x640x768, .f32⟩
  | .local _ .vmem, ⟨20, _⟩ => ⟨S1x640x768, .f32⟩
  | .local _ .vmem, ⟨21, _⟩ => ⟨S1x16x48x640, .fp8e4m3⟩
  | .local _ .vmem, ⟨22, _⟩ => ⟨S1x16x48x640, .fp8e4m3⟩
  | .local _ .vmem, ⟨23, _⟩ => ⟨S3x640, .f32⟩
  | .local _ .vmem, ⟨24, _⟩ => ⟨S1x640x768, .fp8e4m3⟩
  | .local _ .vmem, ⟨25, _⟩ => ⟨S1x640x768, .fp8e4m3⟩
  | .local _ .vmem, ⟨26, _⟩ => ⟨S3x640, .f32⟩
  | .local _ .vmem, ⟨27, _⟩ => ⟨S1x640x1536, .fp8e4m3⟩
  | .local _ .vmem, ⟨28, _⟩ => ⟨S1x640x1536, .fp8e4m3⟩
  | .local _ .vmem, ⟨29, _⟩ => ⟨S3x640, .f32⟩
  | .local _ .vmem, ⟨30, _⟩ => ⟨S2x384x768, .bf16⟩
  | .local _ .vmem, ⟨31, _⟩ => ⟨S2x384x768, .bf16⟩
  | _, _ => ⟨S3x16x48x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v5_4 : Ref sig .tc := ⟨.hbm, 23, rfl⟩
abbrev main_v5_5 : Ref sig .tc := ⟨.hbm, 24, rfl⟩
abbrev main_v5_6 : Ref sig .tc := ⟨.hbm, 25, rfl⟩
abbrev main_v5_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem20_0 : DmaSem sig := 27
abbrev cc0_sem20_1 : DmaSem sig := 28
abbrev cc0_sem21_0 : DmaSem sig := 29

abbrev nD : Nat := 1
abbrev τ : Topo := Topo.v7x

variable {F : FTy → Type} [FloatOps F]

abbrev grid0 : Pipeline.Grid := ⟨1, ![3], ![false]⟩

def k0_off1 (i : grid0.Coords) : Fin 2 → Nat :=
  let arg0 : BitVec 32 := BitVec.ofNat 32 (i 0).val
  let v26 : Index := Scalar.indexCast arg0
  let c0_14 : Index := 0#32
  ![v26.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x48x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x2x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x48x768 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x768x1536 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1536x768 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x640x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x640x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16x48x640 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S3x640 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x640x768 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S3x640 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x640x1536 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S3x640 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== TransitionRefIdeal.lean ====
abbrev S3x16x48x640 : Shape := ⟨4, ![3, 16, 48, 640]⟩
abbrev S3x640x768 : Shape := ⟨3, ![3, 640, 768]⟩
abbrev S3x640x384 : Shape := ⟨3, ![3, 640, 384]⟩
abbrev S384 : Shape := ⟨1, ![384]⟩
abbrev S384x2x768 : Shape := ⟨3, ![384, 2, 768]⟩
abbrev S2x768 : Shape := ⟨2, ![2, 768]⟩
abbrev S768 : Shape := ⟨1, ![768]⟩
abbrev S16x48x768 : Shape := ⟨3, ![16, 48, 768]⟩
abbrev S768x2x1536 : Shape := ⟨3, ![768, 2, 1536]⟩
abbrev S2x1536 : Shape := ⟨2, ![2, 1536]⟩
abbrev S1536x768 : Shape := ⟨2, ![1536, 768]⟩
abbrev S3x640 : Shape := ⟨2, ![3, 640]⟩
abbrev S3x640x1536 : Shape := ⟨3, ![3, 640, 1536]⟩
abbrev S3x640x16x48 : Shape := ⟨4, ![3, 640, 16, 48]⟩
abbrev S3x640x1x1 : Shape := ⟨4, ![3, 640, 1, 1]⟩
abbrev S3x640x1 : Shape := ⟨3, ![3, 640, 1]⟩
abbrev S1x1x768 : Shape := ⟨3, ![1, 1, 768]⟩
abbrev S3x640x2x768 : Shape := ⟨4, ![3, 640, 2, 768]⟩
abbrev S1x1x2x768 : Shape := ⟨4, ![1, 1, 2, 768]⟩
abbrev S3x640x1x768 : Shape := ⟨4, ![3, 640, 1, 768]⟩
abbrev S1x1x384 : Shape := ⟨3, ![1, 1, 384]⟩
abbrev S3x640x2x1536 : Shape := ⟨4, ![3, 640, 2, 1536]⟩
abbrev S1x1x2x1536 : Shape := ⟨4, ![1, 1, 2, 1536]⟩
abbrev S3x640x1x1536 : Shape := ⟨4, ![3, 640, 1, 1536]⟩

abbrev nBuf : Space → Nat
  | .hbm => 22
  | .vmem => 22
  | .smem => 0
  | _ => 0

abbrev bufTy : (tb : Table) → Fin (tcTables nBuf tb) → BufTy
  | .hbm, ⟨0, _⟩ => ⟨S3x16x48x640, .f32⟩
  | .hbm, ⟨1, _⟩ => ⟨S3x640x768, .bf16⟩
  | .hbm, ⟨2, _⟩ => ⟨S3x640x384, .bf16⟩
  | .hbm, ⟨3, _⟩ => ⟨S384, .f32⟩
  | .hbm, ⟨4, _⟩ => ⟨S384x2x768, .bf16⟩
  | .hbm, ⟨5, _⟩ => ⟨S2x768, .f32⟩
  | .hbm, ⟨6, _⟩ => ⟨S384x2x768, .bf16⟩
  | .hbm, ⟨7, _⟩ => ⟨S768, .f32⟩
  | .hbm, ⟨8, _⟩ => ⟨S16x48x768, .fp8e4m3⟩
  | .hbm, ⟨9, _⟩ => ⟨S768, .f32⟩
  | .hbm, ⟨10, _⟩ => ⟨S768x2x1536, .fp8e4m3⟩
  | .hbm, ⟨11, _⟩ => ⟨S2x1536, .f32⟩
  | .hbm, ⟨12, _⟩ => ⟨S1536x768, .fp8e4m3⟩
  | .hbm, ⟨13, _⟩ => ⟨S768, .f32⟩
  | .hbm, ⟨14, _⟩ => ⟨S3x640x768, .bf16⟩
  | .hbm, ⟨15, _⟩ => ⟨S3x640x768, .f32⟩
  | .hbm, ⟨16, _⟩ => ⟨S3x16x48x640, .fp8e4m3⟩
  | .hbm, ⟨17, _⟩ => ⟨S3x640, .f32⟩
  | .hbm, ⟨18, _⟩ => ⟨S3x640x768, .fp8e4m3⟩
  | .hbm, ⟨19, _⟩ => ⟨S3x640, .f32⟩
  | .hbm, ⟨20, _⟩ => ⟨S3x640x1536, .fp8e4m3⟩
  | .hbm, ⟨21, _⟩ => ⟨S3x640, .f32⟩
  | .local _ .vmem, ⟨0, _⟩ => ⟨S3x16x48x640, .f32⟩
  | .local _ .vmem, ⟨1, _⟩ => ⟨S3x640x768, .bf16⟩
  | .local _ .vmem, ⟨2, _⟩ => ⟨S3x640x384, .bf16⟩
  | .local _ .vmem, ⟨3, _⟩ => ⟨S384, .f32⟩
  | .local _ .vmem, ⟨4, _⟩ => ⟨S384x2x768, .bf16⟩
  | .local _ .vmem, ⟨5, _⟩ => ⟨S2x768, .f32⟩
  | .local _ .vmem, ⟨6, _⟩ => ⟨S384x2x768, .bf16⟩
  | .local _ .vmem, ⟨7, _⟩ => ⟨S768, .f32⟩
  | .local _ .vmem, ⟨8, _⟩ => ⟨S16x48x768, .fp8e4m3⟩
  | .local _ .vmem, ⟨9, _⟩ => ⟨S768, .f32⟩
  | .local _ .vmem, ⟨10, _⟩ => ⟨S768x2x1536, .fp8e4m3⟩
  | .local _ .vmem, ⟨11, _⟩ => ⟨S2x1536, .f32⟩
  | .local _ .vmem, ⟨12, _⟩ => ⟨S1536x768, .fp8e4m3⟩
  | .local _ .vmem, ⟨13, _⟩ => ⟨S768, .f32⟩
  | .local _ .vmem, ⟨14, _⟩ => ⟨S3x640x768, .bf16⟩
  | .local _ .vmem, ⟨15, _⟩ => ⟨S3x640x768, .f32⟩
  | .local _ .vmem, ⟨16, _⟩ => ⟨S3x16x48x640, .fp8e4m3⟩
  | .local _ .vmem, ⟨17, _⟩ => ⟨S3x640, .f32⟩
  | .local _ .vmem, ⟨18, _⟩ => ⟨S3x640x768, .fp8e4m3⟩
  | .local _ .vmem, ⟨19, _⟩ => ⟨S3x640, .f32⟩
  | .local _ .vmem, ⟨20, _⟩ => ⟨S3x640x1536, .fp8e4m3⟩
  | .local _ .vmem, ⟨21, _⟩ => ⟨S3x640, .f32⟩
  | _, _ => ⟨S3x16x48x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S3x16x48x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x2x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x2x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x48x768 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x2x1536 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x768 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x640x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x640x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x16x48x640 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3x640 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x640x768 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x640 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S3x640x1536 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S3x640 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Proof.RowStore.lean ====
/- One row of a two-axis array overwritten, and what a store at a run-time row leaves. -/
module

public import Idealize.ShloMosaic.Lib.WritesUnit
public import Idealize.ShloMosaic.Lib.Pointwise

@[expose] public section

namespace Cert.Hand

open Idealize.ShloMosaic

/-- `X` is `Y` with row `b` replaced by the one row of `P`. -/
def RowPut {B N : ℕ} {α : Type} (b : ℕ) (P : (⟨2, ![1, N]⟩ : Shape).Idx → α) (Y X : (⟨2, ![B, N]⟩ : Shape).Idx → α) : Prop :=
  ∀ (r : Fin B) (n : Fin N), X (ix2 r n) = if r.val = b then P (ix2 0 n) else Y (ix2 r n)

variable {sig : RefSig} {κ : Kind} {sp : Space} {e : EltTy} {Val : EltTy → Type} {B N : ℕ}

/-- A store of one row at row `b` into a buffer that reads `Y` leaves `Y` with row `b` replaced. -/
theorem RowPut.of_writes (v : View sig κ sp (⟨2, ![B, N]⟩ : Shape) e) (f : v.ty.Contents Val) (off : Fin 2 → ℕ) (b : ℕ)
    (inb : ∀ a : Fin 2, off a + (![1, N] : Fin 2 → ℕ) a ≤ (![B, N] : Fin 2 → ℕ) a)
    {w P : (⟨2, ![1, N]⟩ : Shape).Idx → Val e} {Y : (⟨2, ![B, N]⟩ : Shape).Idx → Val e}
    (hoff : off = ![b, 0]) (hf : v.read Val f = Y) (hw : w = P) :
    RowPut b P Y (v.read Val (v.writes Val f
      [(⟨Rect.unit (s := ⟨2, ![B, N]⟩) off (![1, N] : Fin 2 → ℕ) inb, w⟩ : View.Piece Val (⟨2, ![B, N]⟩ : Shape) e)])) := by
  intro r n
  subst hw
  by_cases h : r.val = b
  · rw [if_pos h]
    exact View.read_writes_cons_rows_of_mem v f (o := b) inb w [] (ix2 r n) (ix2 0 n) hoff (by simpa using h) rfl
  · rw [if_neg h, ← hf]
    refine (View.read_writes_cons_rows_of_not_mem v f (o := b) (W := 1) inb w [] (ix2 r n) hoff rfl ?_).trans rfl
    have : ((ix2 r n : (⟨2, ![B, N]⟩ : Shape).Idx) (0 : Fin 2)).val = r.val := rfl
    omega

end Cert.Hand
-- ==== Proof.TransitionBitsKit.lean ====
/- The pieces of the hand-written frame of the `transition` call: its branch condition, its staging and scratch memrefs, what the
   carried scratch holds after the first grid point, and what each output block holds after the body, as functions of the
   contents of the input blocks and of the scratch. -/
module

public import proofs.«01_k».proof.Proof.Gen.Transition.Skeleton
public import proofs.«01_k».proof.Proof.Gen.Transition.Frame
public import proofs.«01_k».proof.Proof.RowStore
public import Idealize.ShloMosaic.Lib.Pointwise
public import Idealize.ShloMosaic.Lib.VecWindow

@[expose] public section

set_option maxRecDepth 16384

noncomputable section

namespace Cert.Transition.Hand

open Cert.Hand Cert.Transition Cert.Transition.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

set_option maxHeartbeats 1320000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post at any `F`. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (Pipeline.mem_restRefs_of main_arg7 (by decide) (by decide))).trans (V_main_arg7 m c),
      (Pipeline.RDat.FramePost.arr_in h c 8 rfl).trans ((hA c 8).trans (V_main_arg8 m c)),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      (Pipeline.RDat.FramePost.arr_in h c 11 rfl).trans ((hA c 11).trans (V_main_arg11 m c)),
      (Pipeline.RDat.FramePost.arr_in h c 12 rfl).trans ((hA c 12).trans (V_main_arg12 m c)),
      ((h c).2 main_arg13 (Pipeline.mem_restRefs_of main_arg13 (by decide) (by decide))).trans (V_main_arg13 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 3 = 0 :=
  (fun t => by
    have ht : t.val < 3 := Nat.lt_of_lt_of_eq t.isLt N_0
    have e0 : (grid0.coords t 0).val = t.val / 1 % 3 := Pipeline.Grid.coords_val t 0 (by decide) rfl
    simp only [cond0_0, e0]
    word_cmp
   : ∀ t : Fin grid0.N, cond0_0 (grid0.coords t) ↔ t.val % 3 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x16x48x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x640x384 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S384x2x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S384x2x768 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x48x768 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x768 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x768x1536 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x1536 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1536x768 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x768 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x640x768 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x640x768 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x16x48x640 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S3x640 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x640x768 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S3x640 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x640x1536 .fp8e4m3 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S3x640 .f32 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S2x384x768 .bf16 := Memref.whole cc0_scratch0
abbrev scM0_1 : Memref sig .tc .vmem S2x384x768 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- A stored row's offsets: row `i 0`, column 0. -/
theorem koff (i : grid0.Coords) : k0_off1 i = ![(i 0).val, 0] := by
  have h : (i 0).val < 3 := (i 0).isLt
  unfold k0_off1
  generalize (i 0).val = v at h ⊢
  interval_cases v <;> rfl

/-- What scratch 0 holds once filled: the two halves of the weight array, stacked along a new leading axis. -/
def scr0 (x4 : Vec F S384x2x768 .bf16) : Vec F S2x384x768 .bf16 := fun j => x4 (ix3 (j 1) (j 0) (j 2))

/-- The two stores that fill scratch 0 leave it at `scr0`. -/
theorem scr0_read {κ : Kind} {sp : Space} (v : View sig κ sp S2x384x768 .bf16) (f : v.ty.Contents (Elt F)) (x4 : Vec F S384x2x768 .bf16) :
    v.read (Elt F) (v.writes (Elt F) f
      [⟨(Rect.unit (s := S2x384x768) ![1, 0, 0] S1x384x768.size inb_S2x384x768_S1x384x768_1_0_0), k0_pay3 (View.ld x4 (Rect.unit (s := S384x2x768) ![0, 1, 0] S384x1x768.size inb_S384x2x768_S384x1x768_0_1_0))⟩,
       ⟨(Rect.unit (s := S2x384x768) ![0, 0, 0] S1x384x768.size inb_S2x384x768_S1x384x768_0_0_0), k0_pay2 (View.ld x4 (Rect.unit (s := S384x2x768) ![0, 0, 0] S384x1x768.size inb_S384x2x768_S384x1x768_0_0_0))⟩]) = scr0 x4 := by
  funext j
  obtain ⟨h, r, l, rfl⟩ : ∃ (h : Fin 2) (r : Fin 384) (l : Fin 768), j = ix3 h r l := ⟨j 0, j 1, j 2, by funext a; fin_cases a <;> rfl⟩
  by_cases hh : h.val = 1
  · refine (View.read_writes_cons_unit_of_mem v f _ _ _ (ix3 h r l) (ix3 0 r l) rfl ?_).trans ?_
    · intro a; fin_cases a
      · simpa using hh
      · simp
      · simp
    · obtain rfl : h = 1 := Fin.ext hh
      pointwise [k0_pay3, scr0]
  · have h0 : h.val = 0 := by omega
    refine (View.read_writes_cons_unit_of_not_mem v f _ _ _ (ix3 h r l) rfl (0 : Fin 3) (.inl ?_)).trans ?_
    · simpa using h0
    refine (View.read_writes_cons_unit_of_mem v f _ _ _ (ix3 h r l) (ix3 0 r l) rfl ?_).trans ?_
    · intro a; fin_cases a
      · simpa using h0
      · simp
      · simp
    · obtain rfl : h = 0 := Fin.ext h0
      pointwise [k0_pay2, scr0]

/-- What scratch 1 holds once filled: the two halves of the weight array, stacked along a new leading axis. -/
def scr1 (x6 : Vec F S384x2x768 .bf16) : Vec F S2x384x768 .bf16 := fun j => x6 (ix3 (j 1) (j 0) (j 2))

/-- The two stores that fill scratch 1 leave it at `scr1`. -/
theorem scr1_read {κ : Kind} {sp : Space} (v : View sig κ sp S2x384x768 .bf16) (f : v.ty.Contents (Elt F)) (x6 : Vec F S384x2x768 .bf16) :
    v.read (Elt F) (v.writes (Elt F) f
      [⟨(Rect.unit (s := S2x384x768) ![1, 0, 0] S1x384x768.size inb_S2x384x768_S1x384x768_1_0_0), k0_pay5 (View.ld x6 (Rect.unit (s := S384x2x768) ![0, 1, 0] S384x1x768.size inb_S384x2x768_S384x1x768_0_1_0))⟩,
       ⟨(Rect.unit (s := S2x384x768) ![0, 0, 0] S1x384x768.size inb_S2x384x768_S1x384x768_0_0_0), k0_pay4 (View.ld x6 (Rect.unit (s := S384x2x768) ![0, 0, 0] S384x1x768.size inb_S384x2x768_S384x1x768_0_0_0))⟩]) = scr1 x6 := by
  funext j
  obtain ⟨h, r, l, rfl⟩ : ∃ (h : Fin 2) (r : Fin 384) (l : Fin 768), j = ix3 h r l := ⟨j 0, j 1, j 2, by funext a; fin_cases a <;> rfl⟩
  by_cases hh : h.val = 1
  · refine (View.read_writes_cons_unit_of_mem v f _ _ _ (ix3 h r l) (ix3 0 r l) rfl ?_).trans ?_
    · intro a; fin_cases a
      · simpa using hh
      · simp
      · simp
    · obtain rfl : h = 1 := Fin.ext hh
      pointwise [k0_pay5, scr1]
  · have h0 : h.val = 0 := by omega
    refine (View.read_writes_cons_unit_of_not_mem v f _ _ _ (ix3 h r l) rfl (0 : Fin 3) (.inl ?_)).trans ?_
    · simpa using h0
    refine (View.read_writes_cons_unit_of_mem v f _ _ _ (ix3 h r l) (ix3 0 r l) rfl ?_).trans ?_
    · intro a; fin_cases a
      · simpa using h0
      · simp
      · simp
    · obtain rfl : h = 0 := Fin.ext h0
      pointwise [k0_pay4, scr1]

/-- The residual stream after the gated output projection. -/
def am (x0 : Vec F S1x16x48x640 .f32) (x1 : Vec F S1x640x768 .bf16) (x2 : Vec F S1x640x384 .bf16) (x5 : Vec F S2x768 .f32) (x8 : Vec F S16x48x768 .fp8e4m3) (x9 : Vec F S1x768 .f32) (s0 : Vec F S2x384x768 .bf16) : FVec F S640x768 .f32 :=
  k0_pay12 (k0_pay7 (View.ld x0 (Rect.unit (s := S1x16x48x640) ![0, 0, 0, 0] S1x16x48x640.size inb_S1x16x48x640_S1x16x48x640_0_0_0_0))) (k0_pay10 (View.ld x2 (Rect.unit (s := S1x640x384) ![0, 0, 0] S1x640x384.size inb_S1x640x384_S1x640x384_0_0_0))) (k0_pay11 (View.ld x0 (Rect.unit (s := S1x16x48x640) ![0, 0, 0, 0] S1x16x48x640.size inb_S1x16x48x640_S1x16x48x640_0_0_0_0))) (View.ld x8 (Rect.unit (s := S16x48x768) ![0, 0, 0] S16x48x768.size inb_S16x48x768_S16x48x768_0_0_0)) (View.ld x9 (Rect.unit (s := S1x768) ![0, 0] S1x768.size inb_S1x768_S1x768_0_0)) (View.ld x1 (Rect.unit (s := S1x640x768) ![0, 0, 0] S1x640x768.size inb_S1x640x768_S1x640x768_0_0_0)) (View.ld s0 (Rect.unit (s := S2x384x768) ![0, 0, 0] S1x384x768.size inb_S2x384x768_S1x384x768_0_0_0)) (View.ld x5 (Rect.unit (s := S2x768) ![0, 0] S1x768.size inb_S2x768_S1x768_0_0))

/-- The modulated second layer norm. -/
def x2v (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (s0 : Vec F S2x384x768 .bf16) (s1 : Vec F S2x384x768 .bf16) : FVec F S640x768 .f32 :=
  k0_pay16 (am x0 x1 x2 x5 x8 x9 s0) (k0_pay14 (k0_pay10 (View.ld x2 (Rect.unit (s := S1x640x384) ![0, 0, 0] S1x640x384.size inb_S1x640x384_S1x640x384_0_0_0)))) (k0_pay15 (k0_pay10 (View.ld x2 (Rect.unit (s := S1x640x384) ![0, 0, 0] S1x640x384.size inb_S1x640x384_S1x640x384_0_0_0)))) (Scalar.ofBits .f32 0x3727C5AC#32) (View.ld x3 (Rect.unit (s := S1x384) ![0, 0] S1x384.size inb_S1x384_S1x384_0_0)) (View.ld s1 (Rect.unit (s := S2x384x768) ![0, 0, 0] S1x384x768.size inb_S2x384x768_S1x384x768_0_0_0)) (View.ld x7 (Rect.unit (s := S1x768) ![0, 0] S1x768.size inb_S1x768_S1x768_0_0)) (View.ld s1 (Rect.unit (s := S2x384x768) ![1, 0, 0] S1x384x768.size inb_S2x384x768_S1x384x768_1_0_0))

/-- Its largest absolute value per row. -/
def x2m (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (s0 : Vec F S2x384x768 .bf16) (s1 : Vec F S2x384x768 .bf16) : FVec F S640x1 .f32 :=
  k0_pay17 (am x0 x1 x2 x5 x8 x9 s0) (k0_pay14 (k0_pay10 (View.ld x2 (Rect.unit (s := S1x640x384) ![0, 0, 0] S1x640x384.size inb_S1x640x384_S1x640x384_0_0_0)))) (k0_pay15 (k0_pay10 (View.ld x2 (Rect.unit (s := S1x640x384) ![0, 0, 0] S1x640x384.size inb_S1x640x384_S1x640x384_0_0_0)))) (Scalar.ofBits .f32 0x3727C5AC#32) (View.ld x3 (Rect.unit (s := S1x384) ![0, 0] S1x384.size inb_S1x384_S1x384_0_0)) (View.ld s1 (Rect.unit (s := S2x384x768) ![0, 0, 0] S1x384x768.size inb_S2x384x768_S1x384x768_0_0_0)) (View.ld x7 (Rect.unit (s := S1x768) ![0, 0] S1x768.size inb_S1x768_S1x768_0_0)) (View.ld s1 (Rect.unit (s := S2x384x768) ![1, 0, 0] S1x384x768.size inb_S2x384x768_S1x384x768_1_0_0))

/-- The gate half of the hidden projection, scaled. -/
def gate (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (x10 : Vec F S2x768x1536 .fp8e4m3) (x11 : Vec F S2x1536 .f32) (s0 : Vec F S2x384x768 .bf16) (s1 : Vec F S2x384x768 .bf16) : FVec F S640x1536 .f32 :=
  k0_pay22 (x2v x0 x1 x2 x3 x5 x7 x8 x9 s0 s1) (x2m x0 x1 x2 x3 x5 x7 x8 x9 s0 s1) (View.ld x10 (Rect.unit (s := S2x768x1536) ![0, 0, 0] S1x768x1536.size inb_S2x768x1536_S1x768x1536_0_0_0)) (View.ld x11 (Rect.unit (s := S2x1536) ![0, 0] S1x1536.size inb_S2x1536_S1x1536_0_0))

/-- The up half of the hidden projection, scaled per row only. -/
def up (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (x10 : Vec F S2x768x1536 .fp8e4m3) (x11 : Vec F S2x1536 .f32) (s0 : Vec F S2x384x768 .bf16) (s1 : Vec F S2x384x768 .bf16) : FVec F S640x1536 .f32 :=
  k0_pay23 (x2v x0 x1 x2 x3 x5 x7 x8 x9 s0 s1) (x2m x0 x1 x2 x3 x5 x7 x8 x9 s0 s1) (View.ld x10 (Rect.unit (s := S2x768x1536) ![1, 0, 0] S1x768x1536.size inb_S2x768x1536_S1x768x1536_1_0_0))

/-- The block of `y`. -/
def o14 (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (x10 : Vec F S2x768x1536 .fp8e4m3) (x11 : Vec F S2x1536 .f32) (x12 : Vec F S1536x768 .fp8e4m3) (x13 : Vec F S1x768 .f32) (s0 : Vec F S2x384x768 .bf16) (s1 : Vec F S2x384x768 .bf16) : Vec F S1x640x768 .bf16 :=
  k0_pay1 (k0_pay10 (View.ld x2 (Rect.unit (s := S1x640x384) ![0, 0, 0] S1x640x384.size inb_S1x640x384_S1x640x384_0_0_0))) (am x0 x1 x2 x5 x8 x9 s0) (k0_pay30 (gate x0 x1 x2 x3 x5 x7 x8 x9 x10 x11 s0 s1) (up x0 x1 x2 x3 x5 x7 x8 x9 x10 x11 s0 s1) (k0_pay24 (View.ld x11 (Rect.unit (s := S2x1536) ![1, 0] S1x1536.size inb_S2x1536_S1x1536_1_0))) (View.ld x12 (Rect.unit (s := S1536x768) ![0, 0] S1536x768.size inb_S1536x768_S1536x768_0_0)) (View.ld x13 (Rect.unit (s := S1x768) ![0, 0] S1x768.size inb_S1x768_S1x768_0_0))) (k0_pay31 (View.ld s0 (Rect.unit (s := S2x384x768) ![1, 0, 0] S1x384x768.size inb_S2x384x768_S1x384x768_1_0_0))) (constant S640x768 .f32 0x00000000#32) (View.ld x5 (Rect.unit (s := S2x768) ![1, 0] S1x768.size inb_S2x768_S1x768_1_0))

/-- The block of `a_mid`. -/
def o15 (x0 : Vec F S1x16x48x640 .f32) (x1 : Vec F S1x640x768 .bf16) (x2 : Vec F S1x640x384 .bf16) (x5 : Vec F S2x768 .f32) (x8 : Vec F S16x48x768 .fp8e4m3) (x9 : Vec F S1x768 .f32) (s0 : Vec F S2x384x768 .bf16) : Vec F S1x640x768 .f32 :=
  k0_pay13 (k0_pay7 (View.ld x0 (Rect.unit (s := S1x16x48x640) ![0, 0, 0, 0] S1x16x48x640.size inb_S1x16x48x640_S1x16x48x640_0_0_0_0))) (k0_pay10 (View.ld x2 (Rect.unit (s := S1x640x384) ![0, 0, 0] S1x640x384.size inb_S1x640x384_S1x640x384_0_0_0))) (k0_pay11 (View.ld x0 (Rect.unit (s := S1x16x48x640) ![0, 0, 0, 0] S1x16x48x640.size inb_S1x16x48x640_S1x16x48x640_0_0_0_0))) (View.ld x8 (Rect.unit (s := S16x48x768) ![0, 0, 0] S16x48x768.size inb_S16x48x768_S16x48x768_0_0_0)) (View.ld x9 (Rect.unit (s := S1x768) ![0, 0] S1x768.size inb_S1x768_S1x768_0_0)) (View.ld x1 (Rect.unit (s := S1x640x768) ![0, 0, 0] S1x640x768.size inb_S1x640x768_S1x640x768_0_0_0)) (View.ld s0 (Rect.unit (s := S2x384x768) ![0, 0, 0] S1x384x768.size inb_S2x384x768_S1x384x768_0_0_0)) (View.ld x5 (Rect.unit (s := S2x768) ![0, 0] S1x768.size inb_S2x768_S1x768_0_0))

/-- The block of the codes of `o * g`. -/
def o16 (x0 : Vec F S1x16x48x640 .f32) : Vec F S1x16x48x640 .fp8e4m3 :=
  k0_pay9 (View.ld x0 (Rect.unit (s := S1x16x48x640) ![0, 0, 0, 0] S1x16x48x640.size inb_S1x16x48x640_S1x16x48x640_0_0_0_0))

/-- The row of the scales of `o * g`. -/
def o17 (x0 : Vec F S1x16x48x640 .f32) : Vec F S1x640 .f32 :=
  k0_pay7 (View.ld x0 (Rect.unit (s := S1x16x48x640) ![0, 0, 0, 0] S1x16x48x640.size inb_S1x16x48x640_S1x16x48x640_0_0_0_0))

/-- The block of the codes of the second layer norm. -/
def o18 (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (s0 : Vec F S2x384x768 .bf16) (s1 : Vec F S2x384x768 .bf16) : Vec F S1x640x768 .fp8e4m3 :=
  k0_pay20 (x2v x0 x1 x2 x3 x5 x7 x8 x9 s0 s1) (x2m x0 x1 x2 x3 x5 x7 x8 x9 s0 s1)

/-- The row of its scales. -/
def o19 (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (s0 : Vec F S2x384x768 .bf16) (s1 : Vec F S2x384x768 .bf16) : Vec F S1x640 .f32 :=
  k0_pay21 (x2m x0 x1 x2 x3 x5 x7 x8 x9 s0 s1)

/-- The block of the codes of the hidden layer. -/
def o20 (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (x10 : Vec F S2x768x1536 .fp8e4m3) (x11 : Vec F S2x1536 .f32) (s0 : Vec F S2x384x768 .bf16) (s1 : Vec F S2x384x768 .bf16) : Vec F S1x640x1536 .fp8e4m3 :=
  k0_pay28 (gate x0 x1 x2 x3 x5 x7 x8 x9 x10 x11 s0 s1) (up x0 x1 x2 x3 x5 x7 x8 x9 x10 x11 s0 s1) (k0_pay24 (View.ld x11 (Rect.unit (s := S2x1536) ![1, 0] S1x1536.size inb_S2x1536_S1x1536_1_0)))

/-- The row of its scales. -/
def o21 (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (x10 : Vec F S2x768x1536 .fp8e4m3) (x11 : Vec F S2x1536 .f32) (s0 : Vec F S2x384x768 .bf16) (s1 : Vec F S2x384x768 .bf16) : Vec F S1x640 .f32 :=
  k0_pay29 (gate x0 x1 x2 x3 x5 x7 x8 x9 x10 x11 s0 s1) (up x0 x1 x2 x3 x5 x7 x8 x9 x10 x11 s0 s1) (k0_pay24 (View.ld x11 (Rect.unit (s := S2x1536) ![1, 0] S1x1536.size inb_S2x1536_S1x1536_1_0)))

/-- A load of half 0 of scratch 0 right after it is filled reads that half of `scr0`. -/
theorem scr0_cov0 {κ κ' : Kind} {sp sp' : Space} (v : View sig κ sp S2x384x768 .bf16) (u : View sig κ' sp' S384x2x768 .bf16) (f : u.ty.Contents (Elt F)) :
    v.readCov
      [⟨(Rect.unit (s := S2x384x768) ![1, 0, 0] ![1, 384, 768] inb_S2x384x768_S1x384x768_1_0_0), k0_pay3 (u.readAt (Elt F) (Rect.unit (s := S384x2x768) ![0, 1, 0] ![384, 1, 768] inb_S384x2x768_S384x1x768_0_1_0).toLoadRect f)⟩,
       ⟨(Rect.unit (s := S2x384x768) ![0, 0, 0] ![1, 384, 768] inb_S2x384x768_S1x384x768_0_0_0), k0_pay2 (u.readAt (Elt F) (Rect.unit (s := S384x2x768) ![0, 0, 0] ![384, 1, 768] inb_S384x2x768_S384x1x768_0_0_0).toLoadRect f)⟩] (Rect.unit (s := S2x384x768) ![0, 0, 0] ![1, 384, 768] inb_S2x384x768_S1x384x768_0_0_0).toLoadRect
      = View.ld (scr0 (u.read (Elt F) f)) (Rect.unit (s := S2x384x768) ![0, 0, 0] ![1, 384, 768] inb_S2x384x768_S1x384x768_0_0_0) :=
  congrArg (fun X => View.ld X (Rect.unit (s := S2x384x768) ![0, 0, 0] ![1, 384, 768] inb_S2x384x768_S1x384x768_0_0_0)) (scr0_read v v.junk (u.read (Elt F) f))

/-- A load of half 1 of scratch 0 right after it is filled reads that half of `scr0`. -/
theorem scr0_cov1 {κ κ' : Kind} {sp sp' : Space} (v : View sig κ sp S2x384x768 .bf16) (u : View sig κ' sp' S384x2x768 .bf16) (f : u.ty.Contents (Elt F)) :
    v.readCov
      [⟨(Rect.unit (s := S2x384x768) ![1, 0, 0] ![1, 384, 768] inb_S2x384x768_S1x384x768_1_0_0), k0_pay3 (u.readAt (Elt F) (Rect.unit (s := S384x2x768) ![0, 1, 0] ![384, 1, 768] inb_S384x2x768_S384x1x768_0_1_0).toLoadRect f)⟩,
       ⟨(Rect.unit (s := S2x384x768) ![0, 0, 0] ![1, 384, 768] inb_S2x384x768_S1x384x768_0_0_0), k0_pay2 (u.readAt (Elt F) (Rect.unit (s := S384x2x768) ![0, 0, 0] ![384, 1, 768] inb_S384x2x768_S384x1x768_0_0_0).toLoadRect f)⟩] (Rect.unit (s := S2x384x768) ![1, 0, 0] ![1, 384, 768] inb_S2x384x768_S1x384x768_1_0_0).toLoadRect
      = View.ld (scr0 (u.read (Elt F) f)) (Rect.unit (s := S2x384x768) ![1, 0, 0] ![1, 384, 768] inb_S2x384x768_S1x384x768_1_0_0) :=
  congrArg (fun X => View.ld X (Rect.unit (s := S2x384x768) ![1, 0, 0] ![1, 384, 768] inb_S2x384x768_S1x384x768_1_0_0)) (scr0_read v v.junk (u.read (Elt F) f))

/-- A load of half 0 of scratch 1 right after it is filled reads that half of `scr1`. -/
theorem scr1_cov0 {κ κ' : Kind} {sp sp' : Space} (v : View sig κ sp S2x384x768 .bf16) (u : View sig κ' sp' S384x2x768 .bf16) (f : u.ty.Contents (Elt F)) :
    v.readCov
      [⟨(Rect.unit (s := S2x384x768) ![1, 0, 0] ![1, 384, 768] inb_S2x384x768_S1x384x768_1_0_0), k0_pay5 (u.readAt (Elt F) (Rect.unit (s := S384x2x768) ![0, 1, 0] ![384, 1, 768] inb_S384x2x768_S384x1x768_0_1_0).toLoadRect f)⟩,
       ⟨(Rect.unit (s := S2x384x768) ![0, 0, 0] ![1, 384, 768] inb_S2x384x768_S1x384x768_0_0_0), k0_pay4 (u.readAt (Elt F) (Rect.unit (s := S384x2x768) ![0, 0, 0] ![384, 1, 768] inb_S384x2x768_S384x1x768_0_0_0).toLoadRect f)⟩] (Rect.unit (s := S2x384x768) ![0, 0, 0] ![1, 384, 768] inb_S2x384x768_S1x384x768_0_0_0).toLoadRect
      = View.ld (scr1 (u.read (Elt F) f)) (Rect.unit (s := S2x384x768) ![0, 0, 0] ![1, 384, 768] inb_S2x384x768_S1x384x768_0_0_0) :=
  congrArg (fun X => View.ld X (Rect.unit (s := S2x384x768) ![0, 0, 0] ![1, 384, 768] inb_S2x384x768_S1x384x768_0_0_0)) (scr1_read v v.junk (u.read (Elt F) f))

/-- A load of half 1 of scratch 1 right after it is filled reads that half of `scr1`. -/
theorem scr1_cov1 {κ κ' : Kind} {sp sp' : Space} (v : View sig κ sp S2x384x768 .bf16) (u : View sig κ' sp' S384x2x768 .bf16) (f : u.ty.Contents (Elt F)) :
    v.readCov
      [⟨(Rect.unit (s := S2x384x768) ![1, 0, 0] ![1, 384, 768] inb_S2x384x768_S1x384x768_1_0_0), k0_pay5 (u.readAt (Elt F) (Rect.unit (s := S384x2x768) ![0, 1, 0] ![384, 1, 768] inb_S384x2x768_S384x1x768_0_1_0).toLoadRect f)⟩,
       ⟨(Rect.unit (s := S2x384x768) ![0, 0, 0] ![1, 384, 768] inb_S2x384x768_S1x384x768_0_0_0), k0_pay4 (u.readAt (Elt F) (Rect.unit (s := S384x2x768) ![0, 0, 0] ![384, 1, 768] inb_S384x2x768_S384x1x768_0_0_0).toLoadRect f)⟩] (Rect.unit (s := S2x384x768) ![1, 0, 0] ![1, 384, 768] inb_S2x384x768_S1x384x768_1_0_0).toLoadRect
      = View.ld (scr1 (u.read (Elt F) f)) (Rect.unit (s := S2x384x768) ![1, 0, 0] ![1, 384, 768] inb_S2x384x768_S1x384x768_1_0_0) :=
  congrArg (fun X => View.ld X (Rect.unit (s := S2x384x768) ![1, 0, 0] ![1, 384, 768] inb_S2x384x768_S1x384x768_1_0_0)) (scr1_read v v.junk (u.read (Elt F) f))

end Cert.Transition.Hand

end
-- ==== Proof.TransitionBitsRunA.lean ====
/- The `transition` body run at the first grid point. -/
module

public import proofs.«01_k».proof.Proof.TransitionBitsKit

@[expose] public section

set_option maxRecDepth 16384

noncomputable section

namespace Cert.Transition.Hand

open Cert.Hand Cert.Transition Cert.Transition.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a grid point where the scratch is filled: from the input blocks at their contents it runs to the continuation holding the inputs as they
    were, each whole output block at its function of them, each per-row output with row `i 0` overwritten, and the scratch at its
    stated contents. -/
theorem kernelRun0_A (c : Dev nD) (i : grid0.Coords) (arg1 : Memref sig .tc .vmem S1x16x48x640 .f32) (harg1 : arg1.IsWhole) (arg2 : Memref sig .tc .vmem S1x640x768 .bf16) (harg2 : arg2.IsWhole) (arg3 : Memref sig .tc .vmem S1x640x384 .bf16) (harg3 : arg3.IsWhole) (arg4 : Memref sig .tc .vmem S1x384 .f32) (harg4 : arg4.IsWhole) (arg5 : Memref sig .tc .vmem S384x2x768 .bf16) (harg5 : arg5.IsWhole) (arg6 : Memref sig .tc .vmem S2x768 .f32) (harg6 : arg6.IsWhole) (arg7 : Memref sig .tc .vmem S384x2x768 .bf16) (harg7 : arg7.IsWhole) (arg8 : Memref sig .tc .vmem S1x768 .f32) (harg8 : arg8.IsWhole) (arg9 : Memref sig .tc .vmem S16x48x768 .fp8e4m3) (harg9 : arg9.IsWhole) (arg10 : Memref sig .tc .vmem S1x768 .f32) (harg10 : arg10.IsWhole) (arg11 : Memref sig .tc .vmem S2x768x1536 .fp8e4m3) (harg11 : arg11.IsWhole) (arg12 : Memref sig .tc .vmem S2x1536 .f32) (harg12 : arg12.IsWhole) (arg13 : Memref sig .tc .vmem S1536x768 .fp8e4m3) (harg13 : arg13.IsWhole) (arg14 : Memref sig .tc .vmem S1x768 .f32) (harg14 : arg14.IsWhole) (arg15 : Memref sig .tc .vmem S1x640x768 .bf16) (harg15 : arg15.IsWhole) (arg16 : Memref sig .tc .vmem S1x640x768 .f32) (harg16 : arg16.IsWhole) (arg17 : Memref sig .tc .vmem S1x16x48x640 .fp8e4m3) (harg17 : arg17.IsWhole) (arg18 : Memref sig .tc .vmem S3x640 .f32) (harg18 : arg18.IsWhole) (arg19 : Memref sig .tc .vmem S1x640x768 .fp8e4m3) (harg19 : arg19.IsWhole) (arg20 : Memref sig .tc .vmem S3x640 .f32) (harg20 : arg20.IsWhole) (arg21 : Memref sig .tc .vmem S1x640x1536 .fp8e4m3) (harg21 : arg21.IsWhole) (arg22 : Memref sig .tc .vmem S3x640 .f32) (harg22 : arg22.IsWhole) (arg23 : Memref sig .tc .vmem S2x384x768 .bf16) (harg23 : arg23.IsWhole) (arg24 : Memref sig .tc .vmem S2x384x768 .bf16) (harg24 : arg24.IsWhole) (hc0 : cond0_0 i)
    (x0 : Vec F S1x16x48x640 .f32) (x1 : Vec F S1x640x768 .bf16) (x2 : Vec F S1x640x384 .bf16) (x3 : Vec F S1x384 .f32) (x4 : Vec F S384x2x768 .bf16) (x5 : Vec F S2x768 .f32) (x6 : Vec F S384x2x768 .bf16) (x7 : Vec F S1x768 .f32) (x8 : Vec F S16x48x768 .fp8e4m3) (x9 : Vec F S1x768 .f32) (x10 : Vec F S2x768x1536 .fp8e4m3) (x11 : Vec F S2x1536 .f32) (x12 : Vec F S1536x768 .fp8e4m3) (x13 : Vec F S1x768 .f32)  (y17 : Vec F S3x640 .f32) (y19 : Vec F S3x640 .f32) (y21 : Vec F S3x640 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare y17 ∗ (∃ d, owns (c : Thread nD τ) arg19 fullShare d) ∗ owns (c : Thread nD τ) arg20 fullShare y19 ∗ (∃ d, owns (c : Thread nD τ) arg21 fullShare d) ∗ owns (c : Thread nD τ) arg22 fullShare y21 ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (o14 x0 x1 x2 x3 x5 x7 x8 x9 x10 x11 x12 x13 (scr0 x4) (scr1 x6)) ∗ owns (c : Thread nD τ) arg16 fullShare (o15 x0 x1 x2 x5 x8 x9 (scr0 x4)) ∗ owns (c : Thread nD τ) arg17 fullShare (o16 x0) ∗ (∃ d, ⌜RowPut (i 0).val (o17 x0) y17 d⌝ ∗ owns (c : Thread nD τ) arg18 fullShare d) ∗ owns (c : Thread nD τ) arg19 fullShare (o18 x0 x1 x2 x3 x5 x7 x8 x9 (scr0 x4) (scr1 x6)) ∗ (∃ d, ⌜RowPut (i 0).val (o19 x0 x1 x2 x3 x5 x7 x8 x9 (scr0 x4) (scr1 x6)) y19 d⌝ ∗ owns (c : Thread nD τ) arg20 fullShare d) ∗ owns (c : Thread nD τ) arg21 fullShare (o20 x0 x1 x2 x3 x5 x7 x8 x9 x10 x11 (scr0 x4) (scr1 x6)) ∗ (∃ d, ⌜RowPut (i 0).val (o21 x0 x1 x2 x3 x5 x7 x8 x9 x10 x11 (scr0 x4) (scr1 x6)) y21 d⌝ ∗ owns (c : Thread nD τ) arg22 fullShare d) ∗ owns (c : Thread nD τ) arg23 fullShare (scr0 x4) ∗ owns (c : Thread nD τ) arg24 fullShare (scr1 x6)) -∗ K ⟨⟩))
          ⊢ wp frame (wpE (defs₀ (F := F)) Variants.none c none) E (cc0_transition i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_transition_eq_skeleton]; unfold cc0_transition_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%f17, %hf17, H17⟩, ⟨%d18, %f18, -, H18⟩, ⟨%f19, %hf19, H19⟩, ⟨%d20, %f20, -, H20⟩, ⟨%f21, %hf21, H21⟩, ⟨%ds0, %fs0, -, HS0⟩, ⟨%ds1, %fs1, -, HS1⟩, Hk⟩
    subst hf0; subst hf1; subst hf2; subst hf3; subst hf4; subst hf5; subst hf6; subst hf7; subst hf8; subst hf9; subst hf10; subst hf11; subst hf12; subst hf13
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    isplitl [H13]
    · iexists _; isplitr; · ipureintro; rfl
      iexact H13
    isplitl [H14]
    · iexists _; isplitr; swap; · iexact H14
      ipureintro
      refine (View.read_writes_full _ _ _ _ _).trans ?_
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.cst_40 kernelRun0_A.sl.cst_97 kernelRun0_A.sl.v97 kernelRun0_A.sl.v187 kernelRun0_A.sl.v47 kernelRun0_A.sl.v106 kernelRun0_A.sl.HS0_2 kernelRun0_A.sl.HS1_2; simp only [scr0_cov0, scr0_cov1, scr1_cov0, scr1_cov1]; rfl
    isplitl [H15]
    · iexists _; isplitr; swap; · iexact H15
      ipureintro
      refine (View.read_writes_full _ _ _ _ _).trans ?_
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.cst_40 kernelRun0_A.sl.cst_97 kernelRun0_A.sl.v97 kernelRun0_A.sl.v187 kernelRun0_A.sl.v47 kernelRun0_A.sl.v106 kernelRun0_A.sl.HS0_2 kernelRun0_A.sl.HS1_2; simp only [scr0_cov0, scr0_cov1, scr1_cov0, scr1_cov1]; rfl
    isplitl [H16]
    · iexists _; isplitr; swap; · iexact H16
      ipureintro
      refine (View.read_writes_full _ _ _ _ _).trans ?_
      rfl
    isplitl [H17]
    · iexists _; isplitr; swap
      · iexists _; isplitr; swap; · iexact H17
        ipureintro; rfl
      ipureintro
      refine RowPut.of_writes _ _ _ _ _ (koff i) hf17 ?_
      rfl
    isplitl [H18]
    · iexists _; isplitr; swap; · iexact H18
      ipureintro
      refine (View.read_writes_full _ _ _ _ _).trans ?_
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.cst_40 kernelRun0_A.sl.cst_97 kernelRun0_A.sl.v97 kernelRun0_A.sl.v187 kernelRun0_A.sl.v47 kernelRun0_A.sl.v106 kernelRun0_A.sl.HS0_2 kernelRun0_A.sl.HS1_2; simp only [scr0_cov0, scr0_cov1, scr1_cov0, scr1_cov1]; rfl
    isplitl [H19]
    · iexists _; isplitr; swap
      · iexists _; isplitr; swap; · iexact H19
        ipureintro; rfl
      ipureintro
      refine RowPut.of_writes _ _ _ _ _ (koff i) hf19 ?_
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.cst_40 kernelRun0_A.sl.cst_97 kernelRun0_A.sl.v97 kernelRun0_A.sl.v187 kernelRun0_A.sl.v47 kernelRun0_A.sl.v106 kernelRun0_A.sl.HS0_2 kernelRun0_A.sl.HS1_2; simp only [scr0_cov0, scr0_cov1, scr1_cov0, scr1_cov1]; rfl
    isplitl [H20]
    · iexists _; isplitr; swap; · iexact H20
      ipureintro
      refine (View.read_writes_full _ _ _ _ _).trans ?_
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.cst_40 kernelRun0_A.sl.cst_97 kernelRun0_A.sl.v97 kernelRun0_A.sl.v187 kernelRun0_A.sl.v47 kernelRun0_A.sl.v106 kernelRun0_A.sl.HS0_2 kernelRun0_A.sl.HS1_2; simp only [scr0_cov0, scr0_cov1, scr1_cov0, scr1_cov1]; rfl
    isplitl [H21]
    · iexists _; isplitr; swap
      · iexists _; isplitr; swap; · iexact H21
        ipureintro; rfl
      ipureintro
      refine RowPut.of_writes _ _ _ _ _ (koff i) hf21 ?_
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.cst_40 kernelRun0_A.sl.cst_97 kernelRun0_A.sl.v97 kernelRun0_A.sl.v187 kernelRun0_A.sl.v47 kernelRun0_A.sl.v106 kernelRun0_A.sl.HS0_2 kernelRun0_A.sl.HS1_2; simp only [scr0_cov0, scr0_cov1, scr1_cov0, scr1_cov1]; rfl
    isplitl [HS0]
    · iexists _; isplitr; swap; · iexact HS0
      ipureintro; exact scr0_read _ _ _
    iexists _; isplitr; swap; · iexact HS1
    ipureintro; exact scr1_read _ _ _

end Cert.Transition.Hand

end
-- ==== Proof.TransitionBitsRunB.lean ====
/- The `transition` body run at a later grid point. -/
module

public import proofs.«01_k».proof.Proof.TransitionBitsKit

@[expose] public section

set_option maxRecDepth 16384

noncomputable section

namespace Cert.Transition.Hand

open Cert.Hand Cert.Transition Cert.Transition.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a grid point after the first: from the input blocks at their contents and the scratch at given contents it runs to the continuation holding the inputs as they
    were, each whole output block at its function of them, each per-row output with row `i 0` overwritten, and the scratch at its
    stated contents. -/
theorem kernelRun0_B (c : Dev nD) (i : grid0.Coords) (arg1 : Memref sig .tc .vmem S1x16x48x640 .f32) (harg1 : arg1.IsWhole) (arg2 : Memref sig .tc .vmem S1x640x768 .bf16) (harg2 : arg2.IsWhole) (arg3 : Memref sig .tc .vmem S1x640x384 .bf16) (harg3 : arg3.IsWhole) (arg4 : Memref sig .tc .vmem S1x384 .f32) (harg4 : arg4.IsWhole) (arg5 : Memref sig .tc .vmem S384x2x768 .bf16) (harg5 : arg5.IsWhole) (arg6 : Memref sig .tc .vmem S2x768 .f32) (harg6 : arg6.IsWhole) (arg7 : Memref sig .tc .vmem S384x2x768 .bf16) (harg7 : arg7.IsWhole) (arg8 : Memref sig .tc .vmem S1x768 .f32) (harg8 : arg8.IsWhole) (arg9 : Memref sig .tc .vmem S16x48x768 .fp8e4m3) (harg9 : arg9.IsWhole) (arg10 : Memref sig .tc .vmem S1x768 .f32) (harg10 : arg10.IsWhole) (arg11 : Memref sig .tc .vmem S2x768x1536 .fp8e4m3) (harg11 : arg11.IsWhole) (arg12 : Memref sig .tc .vmem S2x1536 .f32) (harg12 : arg12.IsWhole) (arg13 : Memref sig .tc .vmem S1536x768 .fp8e4m3) (harg13 : arg13.IsWhole) (arg14 : Memref sig .tc .vmem S1x768 .f32) (harg14 : arg14.IsWhole) (arg15 : Memref sig .tc .vmem S1x640x768 .bf16) (harg15 : arg15.IsWhole) (arg16 : Memref sig .tc .vmem S1x640x768 .f32) (harg16 : arg16.IsWhole) (arg17 : Memref sig .tc .vmem S1x16x48x640 .fp8e4m3) (harg17 : arg17.IsWhole) (arg18 : Memref sig .tc .vmem S3x640 .f32) (harg18 : arg18.IsWhole) (arg19 : Memref sig .tc .vmem S1x640x768 .fp8e4m3) (harg19 : arg19.IsWhole) (arg20 : Memref sig .tc .vmem S3x640 .f32) (harg20 : arg20.IsWhole) (arg21 : Memref sig .tc .vmem S1x640x1536 .fp8e4m3) (harg21 : arg21.IsWhole) (arg22 : Memref sig .tc .vmem S3x640 .f32) (harg22 : arg22.IsWhole) (arg23 : Memref sig .tc .vmem S2x384x768 .bf16) (harg23 : arg23.IsWhole) (arg24 : Memref sig .tc .vmem S2x384x768 .bf16) (harg24 : arg24.IsWhole) (hc0 : ¬cond0_0 i)
    (x0 : Vec F S1x16x48x640 .f32) (x1 : Vec F S1x640x768 .bf16) (x2 : Vec F S1x640x384 .bf16) (x3 : Vec F S1x384 .f32) (x4 : Vec F S384x2x768 .bf16) (x5 : Vec F S2x768 .f32) (x6 : Vec F S384x2x768 .bf16) (x7 : Vec F S1x768 .f32) (x8 : Vec F S16x48x768 .fp8e4m3) (x9 : Vec F S1x768 .f32) (x10 : Vec F S2x768x1536 .fp8e4m3) (x11 : Vec F S2x1536 .f32) (x12 : Vec F S1536x768 .fp8e4m3) (x13 : Vec F S1x768 .f32) (s0 : Vec F S2x384x768 .bf16) (s1 : Vec F S2x384x768 .bf16) (y17 : Vec F S3x640 .f32) (y19 : Vec F S3x640 .f32) (y21 : Vec F S3x640 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare y17 ∗ (∃ d, owns (c : Thread nD τ) arg19 fullShare d) ∗ owns (c : Thread nD τ) arg20 fullShare y19 ∗ (∃ d, owns (c : Thread nD τ) arg21 fullShare d) ∗ owns (c : Thread nD τ) arg22 fullShare y21 ∗ owns (c : Thread nD τ) arg23 fullShare s0 ∗ owns (c : Thread nD τ) arg24 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (o14 x0 x1 x2 x3 x5 x7 x8 x9 x10 x11 x12 x13 s0 s1) ∗ owns (c : Thread nD τ) arg16 fullShare (o15 x0 x1 x2 x5 x8 x9 s0) ∗ owns (c : Thread nD τ) arg17 fullShare (o16 x0) ∗ (∃ d, ⌜RowPut (i 0).val (o17 x0) y17 d⌝ ∗ owns (c : Thread nD τ) arg18 fullShare d) ∗ owns (c : Thread nD τ) arg19 fullShare (o18 x0 x1 x2 x3 x5 x7 x8 x9 s0 s1) ∗ (∃ d, ⌜RowPut (i 0).val (o19 x0 x1 x2 x3 x5 x7 x8 x9 s0 s1) y19 d⌝ ∗ owns (c : Thread nD τ) arg20 fullShare d) ∗ owns (c : Thread nD τ) arg21 fullShare (o20 x0 x1 x2 x3 x5 x7 x8 x9 x10 x11 s0 s1) ∗ (∃ d, ⌜RowPut (i 0).val (o21 x0 x1 x2 x3 x5 x7 x8 x9 x10 x11 s0 s1) y21 d⌝ ∗ owns (c : Thread nD τ) arg22 fullShare d) ∗ owns (c : Thread nD τ) arg23 fullShare s0 ∗ owns (c : Thread nD τ) arg24 fullShare s1) -∗ K ⟨⟩))
          ⊢ wp frame (wpE (defs₀ (F := F)) Variants.none c none) E (cc0_transition i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_transition_eq_skeleton]; unfold cc0_transition_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%f17, %hf17, H17⟩, ⟨%d18, %f18, -, H18⟩, ⟨%f19, %hf19, H19⟩, ⟨%d20, %f20, -, H20⟩, ⟨%f21, %hf21, H21⟩, ⟨%fs0, %hfs0, HS0⟩, ⟨%fs1, %hfs1, HS1⟩, Hk⟩
    subst hf0; subst hf1; subst hf2; subst hf3; subst hf4; subst hf5; subst hf6; subst hf7; subst hf8; subst hf9; subst hf10; subst hf11; subst hf12; subst hf13; subst hfs0; subst hfs1
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    isplitl [H13]
    · iexists _; isplitr; · ipureintro; rfl
      iexact H13
    isplitl [H14]
    · iexists _; isplitr; swap; · iexact H14
      ipureintro
      refine (View.read_writes_full _ _ _ _ _).trans ?_
      rfl
    isplitl [H15]
    · iexists _; isplitr; swap; · iexact H15
      ipureintro
      refine (View.read_writes_full _ _ _ _ _).trans ?_
      rfl
    isplitl [H16]
    · iexists _; isplitr; swap; · iexact H16
      ipureintro
      refine (View.read_writes_full _ _ _ _ _).trans ?_
      rfl
    isplitl [H17]
    · iexists _; isplitr; swap
      · iexists _; isplitr; swap; · iexact H17
        ipureintro; rfl
      ipureintro
      refine RowPut.of_writes _ _ _ _ _ (koff i) hf17 ?_
      rfl
    isplitl [H18]
    · iexists _; isplitr; swap; · iexact H18
      ipureintro
      refine (View.read_writes_full _ _ _ _ _).trans ?_
      rfl
    isplitl [H19]
    · iexists _; isplitr; swap
      · iexists _; isplitr; swap; · iexact H19
        ipureintro; rfl
      ipureintro
      refine RowPut.of_writes _ _ _ _ _ (koff i) hf19 ?_
      rfl
    isplitl [H20]
    · iexists _; isplitr; swap; · iexact H20
      ipureintro
      refine (View.read_writes_full _ _ _ _ _).trans ?_
      rfl
    isplitl [H21]
    · iexists _; isplitr; swap
      · iexists _; isplitr; swap; · iexact H21
        ipureintro; rfl
      ipureintro
      refine RowPut.of_writes _ _ _ _ _ (koff i) hf21 ?_
      rfl
    isplitl [HS0]
    · iexists _; isplitr; swap; · iexact HS0
      ipureintro; rfl
    iexists _; isplitr; swap; · iexact HS1
    ipureintro; rfl

end Cert.Transition.Hand

end
-- ==== Proof.TransitionBitsFrame.lean ====
/- The frame of the `transition` call, by hand, at any floats: its proof data (each output held to a relation, since the per-row outputs are
   written one row per grid point and the scratch is filled at the first point only), the body obligation, the run and the
   frame claim. -/
module

public import proofs.«01_k».proof.Proof.TransitionBitsRunA
public import proofs.«01_k».proof.Proof.TransitionBitsRunB
public import Idealize.ShloMosaic.Lib.Pipeline.DatRel
public import Idealize.ShloMosaic.Lib.Claim

@[expose] public section

set_option maxRecDepth 16384

noncomputable section

namespace Cert.Transition.Hand

open Cert.Hand Cert.Transition Cert.Transition.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t0 : Fin cfg0.N := ⟨0, lt_of_lt_of_eq (by norm_num) (show cfg0.N = 3 from N_0).symm⟩

/-- The grid point that writes row `r`. -/
def pt (r : Fin 3) : Fin cfg0.N := ⟨r.val, lt_of_lt_of_eq r.isLt (show cfg0.N = 3 from N_0).symm⟩

/-- The output windows, each held to the relation `Rl`. -/
def forgets0 : Fin 22 → Bool := fun w => w.val == 14 || w.val == 15 || w.val == 16 || w.val == 17 || w.val == 18 || w.val == 19 || w.val == 20 || w.val == 21

/-- What the body leaves in an output window at point `t`: a whole block is the body's function of the input blocks; of a
    per-row output the rows up to `t` are. -/
def Rl (c : Dev nD) : (w : Fin cfg0.W) → (t : Fin cfg0.N) → ((cfg0.win w).block.Idx → Elt F (cfg0.win w).elt) → Prop := fun w t => match w with
  | ⟨14, _⟩ => fun X => X = o14 (iblk m c 0 t) (iblk m c 1 t) (iblk m c 2 t) (iblk m c 3 t) (iblk m c 5 t) (iblk m c 7 t) (iblk m c 8 t) (iblk m c 9 t) (iblk m c 10 t) (iblk m c 11 t) (iblk m c 12 t) (iblk m c 13 t) (scr0 (iblk m c 4 t0)) (scr1 (iblk m c 6 t0))
  | ⟨15, _⟩ => fun X => X = o15 (iblk m c 0 t) (iblk m c 1 t) (iblk m c 2 t) (iblk m c 5 t) (iblk m c 8 t) (iblk m c 9 t) (scr0 (iblk m c 4 t0))
  | ⟨16, _⟩ => fun X => X = o16 (iblk m c 0 t)
  | ⟨17, _⟩ => fun X => ∀ (r : Fin 3) (n : Fin 640), r.val ≤ t.val → X (ix2 r n) = o17 (iblk m c 0 (pt r)) (ix2 0 n)
  | ⟨18, _⟩ => fun X => X = o18 (iblk m c 0 t) (iblk m c 1 t) (iblk m c 2 t) (iblk m c 3 t) (iblk m c 5 t) (iblk m c 7 t) (iblk m c 8 t) (iblk m c 9 t) (scr0 (iblk m c 4 t0)) (scr1 (iblk m c 6 t0))
  | ⟨19, _⟩ => fun X => ∀ (r : Fin 3) (n : Fin 640), r.val ≤ t.val → X (ix2 r n) = o19 (iblk m c 0 (pt r)) (iblk m c 1 (pt r)) (iblk m c 2 (pt r)) (iblk m c 3 (pt r)) (iblk m c 5 (pt r)) (iblk m c 7 (pt r)) (iblk m c 8 (pt r)) (iblk m c 9 (pt r)) (scr0 (iblk m c 4 t0)) (scr1 (iblk m c 6 t0)) (ix2 0 n)
  | ⟨20, _⟩ => fun X => X = o20 (iblk m c 0 t) (iblk m c 1 t) (iblk m c 2 t) (iblk m c 3 t) (iblk m c 5 t) (iblk m c 7 t) (iblk m c 8 t) (iblk m c 9 t) (iblk m c 10 t) (iblk m c 11 t) (scr0 (iblk m c 4 t0)) (scr1 (iblk m c 6 t0))
  | ⟨21, _⟩ => fun X => ∀ (r : Fin 3) (n : Fin 640), r.val ≤ t.val → X (ix2 r n) = o21 (iblk m c 0 (pt r)) (iblk m c 1 (pt r)) (iblk m c 2 (pt r)) (iblk m c 3 (pt r)) (iblk m c 5 (pt r)) (iblk m c 7 (pt r)) (iblk m c 8 (pt r)) (iblk m c 9 (pt r)) (iblk m c 10 (pt r)) (iblk m c 11 (pt r)) (scr0 (iblk m c 4 t0)) (scr1 (iblk m c 6 t0)) (ix2 0 n)
  | _ => fun _ => True

/-- The proof data: the arrays as the region finds them, each input buffer at its block, the outputs named by `Rl` only, and
    as invariant the scratch, at its stated contents once filled, with the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ t := iprop(((∃ d, ⌜t.val ≠ 0 → d = scr0 (iblk m c 4 t0)⌝ ∗ owns (c : Thread nD τ) scM0_0 fullShare d) ∗ (∃ d, ⌜t.val ≠ 0 → d = scr1 (iblk m c 6 t0)⌝ ∗ owns (c : Thread nD τ) scM0_1 fullShare d)) ∗ (∃ r, prngReg c r))
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- The first coordinate of grid point `t` is `t`. -/
theorem coord0 (t : Fin cfg0.N) : (grid0.coords t 0).val = t.val := by
  have ht : t.val < 3 := Nat.lt_of_lt_of_eq t.isLt N_0
  have e0 : (grid0.coords t 0).val = t.val / 1 % 3 := Pipeline.Grid.coords_val t 0 (by decide) rfl
  omega

theorem fetch_17 : ∀ t : Fin cfg0.N, (cfg0.win 17).fetch t = false := by decide +kernel
theorem flush_17 : ∀ t : Fin cfg0.N, t.val < 2 → (cfg0.win 17).flush t = false := by decide +kernel

/-- Window 17: overwriting row `t` of what the point finds gives what it must leave. -/
theorem row_17 (c : Dev nD) (t : Fin cfg0.N) (Y X : Vec F S3x640 .f32)
    (hF : ((dats m 0 c).toRRel forgets0 (Rl m c)).Finds 17 t Y)
    (hX : RowPut (grid0.coords t 0).val (o17 (iblk m c 0 t)) Y X) : Rl m c 17 t X := by
  intro r n hr
  have hN : t.val < 3 := lt_of_lt_of_eq t.isLt (show cfg0.N = 3 from N_0)
  rw [hX r n, coord0]
  by_cases h : r.val = t.val
  · rw [if_pos h]
    have e : pt r = t := Fin.ext h
    rw [e]
  · rw [if_neg h]
    have ht : t.val ≠ 0 := by omega
    rcases (((dats m 0 c).toRRel forgets0 (Rl m c)).finds_of_pos (fetch_17 t) ht Y).mp hF with hfl | hL
    · rw [flush_17 _ (by simp only; omega)] at hfl
      exact absurd hfl Bool.false_ne_true
    · have := Pipeline.Dat.toRRel_leaves (dats m 0 c) (fgt := forgets0) (Rl := Rl m c) (by decide) hL
      exact this r n (by simp only; omega)

theorem fetch_19 : ∀ t : Fin cfg0.N, (cfg0.win 19).fetch t = false := by decide +kernel
theorem flush_19 : ∀ t : Fin cfg0.N, t.val < 2 → (cfg0.win 19).flush t = false := by decide +kernel

/-- Window 19: overwriting row `t` of what the point finds gives what it must leave. -/
theorem row_19 (c : Dev nD) (t : Fin cfg0.N) (Y X : Vec F S3x640 .f32)
    (hF : ((dats m 0 c).toRRel forgets0 (Rl m c)).Finds 19 t Y)
    (hX : RowPut (grid0.coords t 0).val (o19 (iblk m c 0 t) (iblk m c 1 t) (iblk m c 2 t) (iblk m c 3 t) (iblk m c 5 t) (iblk m c 7 t) (iblk m c 8 t) (iblk m c 9 t) (scr0 (iblk m c 4 t0)) (scr1 (iblk m c 6 t0))) Y X) : Rl m c 19 t X := by
  intro r n hr
  have hN : t.val < 3 := lt_of_lt_of_eq t.isLt (show cfg0.N = 3 from N_0)
  rw [hX r n, coord0]
  by_cases h : r.val = t.val
  · rw [if_pos h]
    have e : pt r = t := Fin.ext h
    rw [e]
  · rw [if_neg h]
    have ht : t.val ≠ 0 := by omega
    rcases (((dats m 0 c).toRRel forgets0 (Rl m c)).finds_of_pos (fetch_19 t) ht Y).mp hF with hfl | hL
    · rw [flush_19 _ (by simp only; omega)] at hfl
      exact absurd hfl Bool.false_ne_true
    · have := Pipeline.Dat.toRRel_leaves (dats m 0 c) (fgt := forgets0) (Rl := Rl m c) (by decide) hL
      exact this r n (by simp only; omega)

theorem fetch_21 : ∀ t : Fin cfg0.N, (cfg0.win 21).fetch t = false := by decide +kernel
theorem flush_21 : ∀ t : Fin cfg0.N, t.val < 2 → (cfg0.win 21).flush t = false := by decide +kernel

/-- Window 21: overwriting row `t` of what the point finds gives what it must leave. -/
theorem row_21 (c : Dev nD) (t : Fin cfg0.N) (Y X : Vec F S3x640 .f32)
    (hF : ((dats m 0 c).toRRel forgets0 (Rl m c)).Finds 21 t Y)
    (hX : RowPut (grid0.coords t 0).val (o21 (iblk m c 0 t) (iblk m c 1 t) (iblk m c 2 t) (iblk m c 3 t) (iblk m c 5 t) (iblk m c 7 t) (iblk m c 8 t) (iblk m c 9 t) (iblk m c 10 t) (iblk m c 11 t) (scr0 (iblk m c 4 t0)) (scr1 (iblk m c 6 t0))) Y X) : Rl m c 21 t X := by
  intro r n hr
  have hN : t.val < 3 := lt_of_lt_of_eq t.isLt (show cfg0.N = 3 from N_0)
  rw [hX r n, coord0]
  by_cases h : r.val = t.val
  · rw [if_pos h]
    have e : pt r = t := Fin.ext h
    rw [e]
  · rw [if_neg h]
    have ht : t.val ≠ 0 := by omega
    rcases (((dats m 0 c).toRRel forgets0 (Rl m c)).finds_of_pos (fetch_21 t) ht Y).mp hF with hfl | hL
    · rw [flush_21 _ (by simp only; omega)] at hfl
      exact absurd hfl Bool.false_ne_true
    · have := Pipeline.Dat.toRRel_leaves (dats m 0 c) (fgt := forgets0) (Rl := Rl m c) (by decide) hL
      exact this r n (by simp only; omega)

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ Y, ⌜((dats m 0 c).toRRel forgets0 (Rl m c)).Finds 14 t Y⌝ ∗ owns (c : Thread nD τ) (ms0_14 t) fullShare Y)
    ∗ (∃ Y, ⌜((dats m 0 c).toRRel forgets0 (Rl m c)).Finds 15 t Y⌝ ∗ owns (c : Thread nD τ) (ms0_15 t) fullShare Y)
    ∗ (∃ Y, ⌜((dats m 0 c).toRRel forgets0 (Rl m c)).Finds 16 t Y⌝ ∗ owns (c : Thread nD τ) (ms0_16 t) fullShare Y)
    ∗ (∃ Y, ⌜((dats m 0 c).toRRel forgets0 (Rl m c)).Finds 17 t Y⌝ ∗ owns (c : Thread nD τ) (ms0_17 t) fullShare Y)
    ∗ (∃ Y, ⌜((dats m 0 c).toRRel forgets0 (Rl m c)).Finds 18 t Y⌝ ∗ owns (c : Thread nD τ) (ms0_18 t) fullShare Y)
    ∗ (∃ Y, ⌜((dats m 0 c).toRRel forgets0 (Rl m c)).Finds 19 t Y⌝ ∗ owns (c : Thread nD τ) (ms0_19 t) fullShare Y)
    ∗ (∃ Y, ⌜((dats m 0 c).toRRel forgets0 (Rl m c)).Finds 20 t Y⌝ ∗ owns (c : Thread nD τ) (ms0_20 t) fullShare Y)
    ∗ (∃ Y, ⌜((dats m 0 c).toRRel forgets0 (Rl m c)).Finds 21 t Y⌝ ∗ owns (c : Thread nD τ) (ms0_21 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ (∃ X, ⌜Rl m c 14 t X⌝ ∗ owns (c : Thread nD τ) (ms0_14 t) fullShare X)
    ∗ (∃ X, ⌜Rl m c 15 t X⌝ ∗ owns (c : Thread nD τ) (ms0_15 t) fullShare X)
    ∗ (∃ X, ⌜Rl m c 16 t X⌝ ∗ owns (c : Thread nD τ) (ms0_16 t) fullShare X)
    ∗ (∃ X, ⌜Rl m c 17 t X⌝ ∗ owns (c : Thread nD τ) (ms0_17 t) fullShare X)
    ∗ (∃ X, ⌜Rl m c 18 t X⌝ ∗ owns (c : Thread nD τ) (ms0_18 t) fullShare X)
    ∗ (∃ X, ⌜Rl m c 19 t X⌝ ∗ owns (c : Thread nD τ) (ms0_19 t) fullShare X)
    ∗ (∃ X, ⌜Rl m c 20 t X⌝ ∗ owns (c : Thread nD τ) (ms0_20 t) fullShare X)
    ∗ (∃ X, ⌜Rl m c 21 t X⌝ ∗ owns (c : Thread nD τ) (ms0_21 t) fullShare X))

set_option maxHeartbeats 4800000 in
/-- The body at any grid point: the inputs' memrefs hold their blocks; the first point fills the scratch, the later ones find it
    filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = iprop(((∃ d, ⌜t.castSucc.val ≠ 0 → d = scr0 (iblk m c 4 t0)⌝ ∗ owns (c : Thread nD τ) scM0_0 fullShare d) ∗ (∃ d, ⌜t.castSucc.val ≠ 0 → d = scr1 (iblk m c 6 t0)⌝ ∗ owns (c : Thread nD τ) scM0_1 fullShare d)) ∗ (∃ r, prngReg c r)) from rfl,
    show (dats m 0 c).Φ t.succ = iprop(((∃ d, ⌜t.succ.val ≠ 0 → d = scr0 (iblk m c 4 t0)⌝ ∗ owns (c : Thread nD τ) scM0_0 fullShare d) ∗ (∃ d, ⌜t.succ.val ≠ 0 → d = scr1 (iblk m c 6 t0)⌝ ∗ owns (c : Thread nD τ) scM0_1 fullShare d)) ∗ (∃ r, prngReg c r)) from rfl]
  have hN : t.val < 3 := lt_of_lt_of_eq t.isLt (show cfg0.N = 3 from N_0)
  by_cases h0 : t.val % 3 = 0
  · obtain rfl : t = t0 := Fin.ext (by show t.val = 0; omega)
    iintro ⟨⟨⟨⟨%e0, %he0, HS0⟩, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, %hF14, H14⟩, ⟨%d15, %hF15, H15⟩, ⟨%d16, %hF16, H16⟩, ⟨%d17, %hF17, H17⟩, ⟨%d18, %hF18, H18⟩, ⟨%d19, %hF19, H19⟩, ⟨%d20, %hF20, H20⟩, ⟨%d21, %hF21, H21⟩⟩
    iapply ((kernelRun0_A c (grid0.coords t0) _ _ _ _ _ _ _ _ _ _ _ _ _ _ _ _ _ _ _ _ _ _ _ _ _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) d17 d19 d21) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexact H17
    isplitl [H18]; · iexists _; iexact H18
    isplitl [H19]; · iexact H19
    isplitl [H20]; · iexists _; iexact H20
    isplitl [H21]; · iexact H21
    isplitl [HS0]; · iexists _; iexact HS0
    isplitl [HS1]; · iexists _; iexact HS1
    iintro ⟨H0, H1, H2, H3, H4, H5, H6, H7, H8, H9, H10, H11, H12, H13, H14, H15, H16, ⟨%z17, %hz17, H17⟩, H18, ⟨%z19, %hz19, H19⟩, H20, ⟨%z21, %hz21, H21⟩, HS0, HS1⟩
    isplitl [HS0 HS1 Hg]
    · isplitl [HS0 HS1]
      · isplitl [HS0]
        · iexists _; isplitr; swap; · iexact HS0
          ipureintro; exact fun _ => rfl
        iexists _; isplitr; swap; · iexact HS1
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists _; isplitr; swap; · iexact H14
      ipureintro; exact rfl
    isplitl [H15]
    · iexists _; isplitr; swap; · iexact H15
      ipureintro; exact rfl
    isplitl [H16]
    · iexists _; isplitr; swap; · iexact H16
      ipureintro; exact rfl
    isplitl [H17]
    · iexists _; isplitr; swap; · iexact H17
      ipureintro; exact row_17 m c t0 d17 z17 hF17 hz17
    isplitl [H18]
    · iexists _; isplitr; swap; · iexact H18
      ipureintro; exact rfl
    isplitl [H19]
    · iexists _; isplitr; swap; · iexact H19
      ipureintro; exact row_19 m c t0 d19 z19 hF19 hz19
    isplitl [H20]
    · iexists _; isplitr; swap; · iexact H20
      ipureintro; exact rfl
    iexists _; isplitr; swap; · iexact H21
    ipureintro; exact row_21 m c t0 d21 z21 hF21 hz21
  · have hne : t.castSucc.val ≠ 0 := by show t.val ≠ 0; omega
    iintro ⟨⟨⟨⟨%e0, %he0, HS0⟩, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, %hF14, H14⟩, ⟨%d15, %hF15, H15⟩, ⟨%d16, %hF16, H16⟩, ⟨%d17, %hF17, H17⟩, ⟨%d18, %hF18, H18⟩, ⟨%d19, %hF19, H19⟩, ⟨%d20, %hF20, H20⟩, ⟨%d21, %hF21, H21⟩⟩
    obtain rfl := he0 hne
    obtain rfl := he1 hne
    iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (scr0 (iblk m c 4 t0)) (scr1 (iblk m c 6 t0)) d17 d19 d21) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexact H17
    isplitl [H18]; · iexists _; iexact H18
    isplitl [H19]; · iexact H19
    isplitl [H20]; · iexists _; iexact H20
    isplitl [H21]; · iexact H21
    isplitl [HS0]; · iexact HS0
    isplitl [HS1]; · iexact HS1
    iintro ⟨H0, H1, H2, H3, H4, H5, H6, H7, H8, H9, H10, H11, H12, H13, H14, H15, H16, ⟨%z17, %hz17, H17⟩, H18, ⟨%z19, %hz19, H19⟩, H20, ⟨%z21, %hz21, H21⟩, HS0, HS1⟩
    isplitl [HS0 HS1 Hg]
    · isplitl [HS0 HS1]
      · isplitl [HS0]
        · iexists _; isplitr; swap; · iexact HS0
          ipureintro; exact fun _ => rfl
        iexists _; isplitr; swap; · iexact HS1
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists _; isplitr; swap; · iexact H14
      ipureintro; exact rfl
    isplitl [H15]
    · iexists _; isplitr; swap; · iexact H15
      ipureintro; exact rfl
    isplitl [H16]
    · iexists _; isplitr; swap; · iexact H16
      ipureintro; exact rfl
    isplitl [H17]
    · iexists _; isplitr; swap; · iexact H17
      ipureintro; exact row_17 m c t d17 z17 hF17 hz17
    isplitl [H18]
    · iexists _; isplitr; swap; · iexact H18
      ipureintro; exact rfl
    isplitl [H19]
    · iexists _; isplitr; swap; · iexact H19
      ipureintro; exact row_19 m c t d19 z19 hF19 hz19
    isplitl [H20]
    · iexists _; isplitr; swap; · iexact H20
      ipureintro; exact rfl
    iexists _; isplitr; swap; · iexact H21
    ipureintro; exact row_21 m c t d21 z21 hF21 hz21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation with the outputs held to `Rl`, at every point. -/
theorem body_obligation (c : Dev nD) : Pipeline.BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-- The relational proof data on core `c`. -/
abbrev rdat (c : Dev nD) : Pipeline.RDat τ (Elt F) Unit ℕ (UR sig nD τ) ℕ (cfgs 0) c := (dats m 0 c).toRRel forgets0 (Rl m c)

/-- The scratch at anything gives the invariant before the first point. -/
theorem hin (c : Dev nD) : (Pipeline.ΦA spec0 c : sProp 𝕄) ⊢ (dats (F := F) m 0 c).Φ 0 := by
  rw [PhiA0_eq, show (dats m 0 c).Φ 0 = iprop(((∃ d, ⌜(0 : Fin (cfg0.N + 1)).val ≠ 0 → d = scr0 (iblk m c 4 t0)⌝ ∗ owns (c : Thread nD τ) scM0_0 fullShare d) ∗ (∃ d, ⌜(0 : Fin (cfg0.N + 1)).val ≠ 0 → d = scr1 (iblk m c 6 t0)⌝ ∗ owns (c : Thread nD τ) scM0_1 fullShare d)) ∗ (∃ r, prngReg c r)) from rfl]
  iintro ⟨⟨⟨%e0, HS0⟩, ⟨%e1, HS1⟩⟩, Hg⟩
  isplitl [HS0 HS1]
  · isplitl [HS0]
    · iexists _; isplitr; swap; · iexact HS0
      ipureintro; exact fun h => absurd rfl h
    iexists _; isplitr; swap; · iexact HS1
    ipureintro; exact fun h => absurd rfl h
  iexact Hg

/-- The invariant after the last point gives the scratch back at some contents. -/
theorem hout (c : Dev nD) : (dats (F := F) m 0 c).Φ (Fin.last cfg0.N) ⊢ (Pipeline.ΦA spec0 c : sProp 𝕄) := by
  rw [PhiA0_eq, show (dats m 0 c).Φ (Fin.last cfg0.N) = iprop(((∃ d, ⌜(Fin.last cfg0.N).val ≠ 0 → d = scr0 (iblk m c 4 t0)⌝ ∗ owns (c : Thread nD τ) scM0_0 fullShare d) ∗ (∃ d, ⌜(Fin.last cfg0.N).val ≠ 0 → d = scr1 (iblk m c 6 t0)⌝ ∗ owns (c : Thread nD τ) scM0_1 fullShare d)) ∗ (∃ r, prngReg c r)) from rfl]
  iintro ⟨⟨⟨%e0, -, HS0⟩, ⟨%e1, -, HS1⟩⟩, Hg⟩
  isplitl [HS0 HS1]
  · isplitl [HS0]
    · iexists _; iexact HS0
    iexists _; iexact HS1
  iexact Hg

set_option backward.isDefEq.respectTransparency.types false in
/-- The run: every weakly fair execution terminates, with the outputs' contents as `Rl` has them and every counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track cfgs (0 : Fin 1) launch0 defs₀ Variants.none (rdat m) m ρ main
    (fun c => (body_obligation m c).toRRel) (fun c => (dats m 0 c).share_full fun _ => rfl)
    (fun _ _ => rfl) (V m) (hmain m Variants.none) (A_eq m) (hin m) (hout m) _ (fun _ h => h)

/-- The same without the counters. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_ofR m ρ (rdat m) (A_eq m) (run_main m ρ)

/-- The frame: the argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Transition.Hand

end
-- ==== Proof.IdealFacts.lean ====
/- Facts about extended-real arithmetic used by several calls: dividing by a square root, a maximum over two axes taken at once or
   one after the other, and a sum over two axes taken at once or over the merged axis. -/
module

public import Idealize.ShloMosaic.Lib.Pointwise

@[expose] public section

noncomputable section

namespace Cert.Hand

open Idealize.ShloMosaic

/-- Dividing by the root of a positive number is multiplying by its reciprocal root. -/
theorem div_sqrt_eq (d z : EReal) (hz : 0 < z) : Ideal.div d (Ideal.sqrt z) = d * Ideal.rsqrt z := by
  induction z using EReal.rec with
  | bot => exact absurd hz (by simp)
  | top => show Ideal.div d ⊤ = d * 0; rw [Ideal.div, if_neg (by simp)]; simp
  | coe r =>
    have hr : 0 < r := by exact_mod_cast hz
    have hs : Real.sqrt r ≠ 0 := (Real.sqrt_pos.mpr hr).ne'
    have e1 : Ideal.sqrt (r : EReal) = ((Real.sqrt r : ℝ) : EReal) := if_neg (not_lt.mpr hr.le)
    have e2 : Ideal.rsqrt (r : EReal) = (((Real.sqrt r)⁻¹ : ℝ) : EReal) := (if_neg (not_lt.mpr hr.le)).trans (if_neg hr.ne')
    rw [e1, e2, Ideal.div, if_neg (by exact_mod_cast hs), EReal.coe_inv]

/-- A square is nonnegative. -/
theorem mul_self_nonneg' (x : EReal) : 0 ≤ x * x := by
  rcases le_total 0 x with h | h
  · exact EReal.mul_nonneg h h
  · rw [← neg_mul_neg]
    exact EReal.mul_nonneg (EReal.neg_nonneg.mpr h) (EReal.neg_nonneg.mpr h)

/-- A nonnegative number over a positive real is nonnegative. -/
theorem div_nonneg' (x : EReal) (y : EReal) (hx : 0 ≤ x) (hy : 0 < y) : 0 ≤ Ideal.div x y := by
  rw [Ideal.div, if_neg hy.ne']
  exact EReal.mul_nonneg hx (EReal.inv_nonneg_of_nonneg hy.le)

theorem eps_pos : 0 < Ideal.ofBits .f32 0x3727C5AC#32 := by
  have h1 : ((0x3727C5AC#32).extractLsb' 23 8).toNat = 110 := by decide
  have h2 : ((0x3727C5AC#32).extractLsb' 0 23).toNat = 2606508 := by decide
  have h3 : ((0x3727C5AC#32).extractLsb' 31 1 == 1#1) = false := by decide
  show 0 < Ideal.ieee 8 23 (0x3727C5AC#32)
  simp only [Ideal.ieee, Nat.reduceAdd, h1, h2, h3]
  norm_num

theorem c768_pos : 0 < Ideal.ofBits .f32 0x44400000#32 := by
  have h1 : ((0x44400000#32).extractLsb' 23 8).toNat = 136 := by decide
  have h2 : ((0x44400000#32).extractLsb' 0 23).toNat = 4194304 := by decide
  have h3 : ((0x44400000#32).extractLsb' 31 1 == 1#1) = false := by decide
  show 0 < Ideal.ieee 8 23 (0x44400000#32)
  simp only [Ideal.ieee, Nat.reduceAdd, h1, h2, h3]
  norm_num

theorem c384_pos : 0 < Ideal.ofBits .f32 0x43C00000#32 := by
  have h1 : ((0x43C00000#32).extractLsb' 23 8).toNat = 135 := by decide
  have h2 : ((0x43C00000#32).extractLsb' 0 23).toNat = 4194304 := by decide
  have h3 : ((0x43C00000#32).extractLsb' 31 1 == 1#1) = false := by decide
  show 0 < Ideal.ieee 8 23 (0x43C00000#32)
  simp only [Ideal.ieee, Nat.reduceAdd, h1, h2, h3]
  norm_num

/-- The sum of squares over a positive count, plus a positive number, is positive. -/
theorem var_pos {n : ℕ} (f : Fin n → EReal) (c e : EReal) (hc : 0 < c) (he : 0 < e) :
    0 < Ideal.div (∑ x, f x * f x) c + e :=
  lt_of_lt_of_le he (le_add_of_nonneg_left (div_nonneg' _ _ (Finset.sum_nonneg fun x _ => mul_self_nonneg' _) hc))

/-- The largest over two axes, one after the other or both at once. -/
theorem fold_max_prod {a b : ℕ} (i : EReal) (f : Fin a → Fin b → EReal) :
    (Finset.fold max i (fun y => Finset.fold max i (fun x => f x y) Finset.univ) Finset.univ)
      = Finset.fold max i (fun p : Fin a × Fin b => f p.1 p.2) Finset.univ := by
  refine eq_of_forall_ge_iff fun c => ?_
  simp only [Finset.fold_max_le, Finset.mem_univ, true_implies, Prod.forall]
  exact ⟨fun h => ⟨h.1, fun x y => (h.2 y).2 x⟩, fun h => ⟨h.1, fun y => ⟨h.1, fun x => h.2 x y⟩⟩⟩

/-- A sum over a merged axis of 16 groups of 48 is the sum over both. -/
theorem sum_merge (f : Fin 16 → Fin 48 → EReal) :
    (∑ x : Fin 768, f ⟨x.val / 48, by omega⟩ ⟨x.val % 48, by omega⟩) = ∑ d : Fin 48, ∑ e : Fin 16, f e d := by
  rw [Finset.sum_comm, ← Fintype.sum_prod_type']
  refine (Fintype.sum_equiv (finProdFinEquiv (m := 16) (n := 48)) (fun p => f p.1 p.2) _ fun p => ?_).symm
  have h1 : p.1 = ⟨(finProdFinEquiv (m := 16) (n := 48) p).val / 48, by omega⟩ := by
    apply Fin.ext; simp only [finProdFinEquiv, Equiv.coe_fn_mk]; omega
  have h2 : p.2 = ⟨(finProdFinEquiv (m := 16) (n := 48) p).val % 48, by omega⟩ := by
    apply Fin.ext; simp only [finProdFinEquiv, Equiv.coe_fn_mk]; omega
  exact congrArg₂ f h1 h2

end Cert.Hand

end

end
-- ==== Proof.TransPoint.lean ====
/- Values of the `transition` call at one point: what each payload of the kernel and of the reference is, and where the two agree. -/
module

public import proofs.«01_k».proof.Proof.Gen.TransitionIdeal.Skeleton
public import proofs.«01_k».proof.Proof.Gen.TransitionRefIdeal.Skeleton
public import proofs.«01_k».proof.Proof.IdealFacts

@[expose] public section

set_option maxRecDepth 16384

noncomputable section

namespace Cert.Hand.T

open Idealize.ShloMosaic Cert Cert.Hand

variable (b : Fin 3)

section

/-- The scale of `o * g`, per row. -/
theorem ogs3 (x0 : Vec Ideal TransitionIdeal.S1x16x48x640 .f32) (X0 : Vec Ideal TransitionRefIdeal.S3x16x48x640 .f32)
    (h0 : ∀ (e : Fin 16) (d : Fin 48) (n : Fin 640), x0 (ix4 0 e d n) = X0 (ix4 b e d n)) (n : Fin 640) :
    TransitionIdeal.Gen.k0_pay7 (F := Ideal) x0 (ix2 0 n) = TransitionRefIdeal.Gen.k0_pay3 (F := Ideal) X0 (ix4 b n 0 0) := by
  have e := fold_max_prod (a := 16) (b := 48) (Ideal.ofBits FTy.f32 0xFF800000#32) fun e d => (FloatOps.absf (X0 (ix4 b e d n)) : Ideal .f32)
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay7, TransitionIdeal.Gen.k0_pay6, TransitionRefIdeal.Gen.k0_pay3, TransitionRefIdeal.Gen.k0_pay2, h0]
  simp only [e]

/-- The scale of `o * g`, per row, as the reference stores it. -/
theorem ogs5 (X0 : Vec Ideal TransitionRefIdeal.S3x16x48x640 .f32) (n : Fin 640) : TransitionRefIdeal.Gen.k0_pay5 (F := Ideal) X0 (ix2 b n) = TransitionRefIdeal.Gen.k0_pay3 (F := Ideal) X0 (ix4 b n 0 0) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionRefIdeal.Gen.k0_pay5]

/-- The codes of `o * g`. -/
theorem ogc (x0 : Vec Ideal TransitionIdeal.S1x16x48x640 .f32) (X0 : Vec Ideal TransitionRefIdeal.S3x16x48x640 .f32)
    (h0 : ∀ (e : Fin 16) (d : Fin 48) (n : Fin 640), x0 (ix4 0 e d n) = X0 (ix4 b e d n)) (e : Fin 16) (d : Fin 48) (n : Fin 640) :
    TransitionIdeal.Gen.k0_pay8 (F := Ideal) x0 (ix3 e d n) = TransitionRefIdeal.Gen.k0_pay4 (F := Ideal) X0 (ix4 b n e d) := by
  have hs := ogs3 b x0 X0 h0
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay8, TransitionIdeal.Gen.k0_pay6, TransitionRefIdeal.Gen.k0_pay4, TransitionRefIdeal.Gen.k0_pay2, h0, hs]

/-- The codes of `o * g` as both store them. -/
theorem ogo (x0 : Vec Ideal TransitionIdeal.S1x16x48x640 .f32) (X0 : Vec Ideal TransitionRefIdeal.S3x16x48x640 .f32)
    (h0 : ∀ (e : Fin 16) (d : Fin 48) (n : Fin 640), x0 (ix4 0 e d n) = X0 (ix4 b e d n)) (e : Fin 16) (d : Fin 48) (n : Fin 640) :
    TransitionIdeal.Gen.k0_pay9 (F := Ideal) x0 (ix4 0 e d n) = TransitionRefIdeal.Gen.k0_pay24 (F := Ideal) (TransitionRefIdeal.Gen.k0_pay4 (F := Ideal) X0) (ix4 b e d n) := by
  have hs := ogc b x0 X0 h0
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay9, TransitionRefIdeal.Gen.k0_pay24, hs]

end

section

/-- The codes of `o * g` with the head axes merged. -/
theorem ogm (x0 : Vec Ideal TransitionIdeal.S1x16x48x640 .f32) (x : Fin 768) (n : Fin 640) :
    TransitionIdeal.Gen.k0_pay11 (F := Ideal) x0 (ix2 x n) = TransitionIdeal.Gen.k0_pay8 (F := Ideal) x0 (ix3 ⟨x.val / 48, by omega⟩ ⟨x.val % 48, by omega⟩ n) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay11]

end

section

/-- The residual stream at one point, from the values it is computed from. -/
theorem am_k (v14 : Vec Ideal TransitionIdeal.S1x640 .f32) (v29 : Vec Ideal TransitionIdeal.S640x384 .bf16) (v30 : Vec Ideal TransitionIdeal.S768x640 .fp8e4m3) (v31 : Vec Ideal TransitionIdeal.S16x48x768 .fp8e4m3) (v40 : Vec Ideal TransitionIdeal.S1x768 .f32) (v44 : Vec Ideal TransitionIdeal.S1x640x768 .bf16) (v47 : Vec Ideal TransitionIdeal.S1x384x768 .bf16) (v50 : Vec Ideal TransitionIdeal.S1x768 .f32)
    (n : Fin 640) (l : Fin 768) : TransitionIdeal.Gen.k0_pay12 (F := Ideal) v14 v29 v30 v31 v40 v44 v47 v50 (ix2 n l) =
      v44 (ix3 0 n l) + Ideal.logistic (∑ x : Fin 384, v29 (ix2 n x) * v47 (ix3 0 x l) + v50 (ix2 0 l)) *
        ((∑ x : Fin 768, v30 (ix2 x n) * v31 (ix3 ⟨x.val / 48, by omega⟩ ⟨x.val % 48, by omega⟩ l)) * v14 (ix2 0 n) * v40 (ix2 0 l)) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay12]

end

section

/-- The reference's projection of `o * g` at one point. -/
theorem am_r6 (X0 : Vec Ideal TransitionRefIdeal.S3x16x48x640 .f32) (X8 : Vec Ideal TransitionRefIdeal.S16x48x768 .fp8e4m3) (X9 : Vec Ideal TransitionRefIdeal.S768 .f32) (n : Fin 640) (l : Fin 768) :
    TransitionRefIdeal.Gen.k0_pay6 (F := Ideal) X0 X8 X9 (ix3 b n l) = (∑ d : Fin 48, ∑ e : Fin 16, TransitionRefIdeal.Gen.k0_pay4 (F := Ideal) X0 (ix4 b n e d) * X8 (ix3 e d l)) * TransitionRefIdeal.Gen.k0_pay3 (F := Ideal) X0 (ix4 b n 0 0) * X9 (ix1 l) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionRefIdeal.Gen.k0_pay6, TransitionRefIdeal.Gen.k0_pay5]

end

section

/-- The reference's gate projection at one point. -/
theorem gs_r (X2 : Vec Ideal TransitionRefIdeal.S3x640x384 .bf16) (X4 : Vec Ideal TransitionRefIdeal.S384x2x768 .bf16) (n : Fin 640) (h : Fin 2) (l : Fin 768) :
    TransitionRefIdeal.Gen.k0_pay7 (F := Ideal) X2 X4 (ix4 b n h l) = ∑ x : Fin 384, X2 (ix3 b n x) * X4 (ix3 x h l) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionRefIdeal.Gen.k0_pay7]

/-- The reference's residual stream at one point. -/
theorem am_r (X1 : Vec Ideal TransitionRefIdeal.S3x640x768 .bf16) (V30 : Vec Ideal TransitionRefIdeal.S3x640x768 .f32) (V32 : Vec Ideal TransitionRefIdeal.S3x640x2x768 .f32) (X5 : Vec Ideal TransitionRefIdeal.S2x768 .f32) (n : Fin 640) (l : Fin 768) :
    TransitionRefIdeal.Gen.k0_pay9 (F := Ideal) (TransitionRefIdeal.Gen.k0_pay1 (F := Ideal) X1) V30 V32 X5 (ix3 b n l) = X1 (ix3 b n l) + Ideal.logistic (V32 (ix4 b n 0 l) + X5 (ix2 0 l)) * V30 (ix3 b n l) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionRefIdeal.Gen.k0_pay9, TransitionRefIdeal.Gen.k0_pay8, TransitionRefIdeal.Gen.k0_pay1]

end

section

/-- The modulated layer norm at one point, from the values it is computed from. -/
theorem x2_k (v55 : Vec Ideal TransitionIdeal.S640x768 .f32) (v65 : Vec Ideal TransitionIdeal.S640x384 .f32) (v70 : Vec Ideal TransitionIdeal.S640x1 .f32) (cst_40 : Ideal .f32) (v76 : Vec Ideal TransitionIdeal.S1x384 .f32) (v97 : Vec Ideal TransitionIdeal.S1x384x768 .bf16) (v100 : Vec Ideal TransitionIdeal.S1x768 .f32) (v106 : Vec Ideal TransitionIdeal.S1x384x768 .bf16)
    (n : Fin 640) (l : Fin 768) : TransitionIdeal.Gen.k0_pay16 (F := Ideal) v55 v65 v70 cst_40 v76 v97 v100 v106 (ix2 n l) =
      (v55 (ix2 n l) - Ideal.div (∑ x : Fin 768, v55 (ix2 n x)) (Ideal.ofBits FTy.f32 0x44400000#32)) *
          Ideal.rsqrt (Ideal.div (∑ x : Fin 768, (v55 (ix2 n x) - Ideal.div (∑ x : Fin 768, v55 (ix2 n x)) (Ideal.ofBits FTy.f32 0x44400000#32)) *
                    (v55 (ix2 n x) - Ideal.div (∑ x : Fin 768, v55 (ix2 n x)) (Ideal.ofBits FTy.f32 0x44400000#32)))
                (Ideal.ofBits FTy.f32 0x44400000#32) + Ideal.ofBits FTy.f32 0x3727C5AC#32) *
        Ideal.logistic (∑ x : Fin 384, v65 (ix2 n x) * Ideal.rsqrt (v70 (ix2 n 0) + cst_40) * v76 (ix2 0 x) * v97 (ix3 0 x l) + v100 (ix2 0 l)) +
      ∑ x : Fin 384, v65 (ix2 n x) * Ideal.rsqrt (v70 (ix2 n 0) + cst_40) * v76 (ix2 0 x) * v106 (ix3 0 x l) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay16]

end

section

/-- The reference's modulated layer norm at one point, from the two layer norms. -/
theorem x2_r (v58 : Vec Ideal TransitionRefIdeal.S3x640x384 .f32) (v74 : Vec Ideal TransitionRefIdeal.S3x640x768 .f32) (v75 : Vec Ideal TransitionRefIdeal.S384 .f32) (v76 : Vec Ideal TransitionRefIdeal.S384x2x768 .bf16) (v77 : Vec Ideal TransitionRefIdeal.S768 .f32)
    (n : Fin 640) (l : Fin 768) : TransitionRefIdeal.Gen.k0_pay12 (F := Ideal) v58 v74 v75 v76 v77 (ix3 b n l) =
      v74 (ix3 b n l) * Ideal.logistic (∑ x : Fin 384, v58 (ix3 b n x) * v75 (ix1 x) * v76 (ix3 x 0 l) + v77 (ix1 l)) +
      ∑ x : Fin 384, v58 (ix3 b n x) * v75 (ix1 x) * v76 (ix3 x 1 l) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionRefIdeal.Gen.k0_pay12]

end

section

/-- The reference's layer norm of the residual stream at one point. -/
theorem ln_r (v1 v30 : Vec Ideal TransitionRefIdeal.S3x640x768 .f32) (v32 : Vec Ideal TransitionRefIdeal.S3x640x2x768 .f32) (v33 : Vec Ideal TransitionRefIdeal.S2x768 .f32) (n : Fin 640) (l : Fin 768) :
    TransitionRefIdeal.Gen.k0_pay11 (F := Ideal) v1 v30 v32 v33 (ix3 b n l) =
      (TransitionRefIdeal.Gen.k0_pay9 (F := Ideal) v1 v30 v32 v33 (ix3 b n l) - Ideal.div (∑ x : Fin 768, TransitionRefIdeal.Gen.k0_pay9 (F := Ideal) v1 v30 v32 v33 (ix3 b n x)) (Ideal.ofBits FTy.f32 0x44400000#32)) *
          Ideal.rsqrt (Ideal.div (∑ x : Fin 768, (TransitionRefIdeal.Gen.k0_pay9 (F := Ideal) v1 v30 v32 v33 (ix3 b n x) - Ideal.div (∑ x : Fin 768, TransitionRefIdeal.Gen.k0_pay9 (F := Ideal) v1 v30 v32 v33 (ix3 b n x)) (Ideal.ofBits FTy.f32 0x44400000#32)) *
                    (TransitionRefIdeal.Gen.k0_pay9 (F := Ideal) v1 v30 v32 v33 (ix3 b n x) - Ideal.div (∑ x : Fin 768, TransitionRefIdeal.Gen.k0_pay9 (F := Ideal) v1 v30 v32 v33 (ix3 b n x)) (Ideal.ofBits FTy.f32 0x44400000#32)))
                (Ideal.ofBits FTy.f32 0x44400000#32) + Ideal.ofBits FTy.f32 0x3727C5AC#32) := by
  rw [← div_sqrt_eq _ _ (var_pos _ _ _ c768_pos eps_pos)]
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionRefIdeal.Gen.k0_pay11]

end

section

/-- The first layer norm: the reference divides by the root, the kernel multiplies by its reciprocal. -/
theorem ls_kr (v29 : Vec Ideal TransitionIdeal.S640x384 .bf16) (X2 : Vec Ideal TransitionRefIdeal.S3x640x384 .bf16) (h : ∀ (n : Fin 640) (x : Fin 384), v29 (ix2 n x) = X2 (ix3 b n x)) (n : Fin 640) (x : Fin 384) :
    TransitionIdeal.Gen.k0_pay14 (F := Ideal) v29 (ix2 n x) * Ideal.rsqrt (TransitionIdeal.Gen.k0_pay15 (F := Ideal) v29 (ix2 n 0) + Ideal.ofBits FTy.f32 0x3727C5AC#32) = TransitionRefIdeal.Gen.k0_pay10 (F := Ideal) X2 (ix3 b n x) := by
  have e : TransitionIdeal.Gen.k0_pay15 (F := Ideal) v29 (ix2 n 0) = Ideal.div (∑ x : Fin 384, TransitionIdeal.Gen.k0_pay14 (F := Ideal) v29 (ix2 n x) * TransitionIdeal.Gen.k0_pay14 (F := Ideal) v29 (ix2 n x)) (Ideal.ofBits FTy.f32 0x43C00000#32) := by
    set_option backward.isDefEq.respectTransparency false in
    simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay15]
  rw [e, ← div_sqrt_eq _ _ (var_pos _ _ _ c384_pos eps_pos)]
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionRefIdeal.Gen.k0_pay10, TransitionIdeal.Gen.k0_pay14, h]

end

section

/-- The scale of the second layer norm. -/
theorem x2s (v109 : Vec Ideal TransitionIdeal.S640x768 .f32) (v112 : Vec Ideal TransitionIdeal.S640x1 .f32) (v58 : Vec Ideal TransitionRefIdeal.S3x640x384 .f32) (v74 : Vec Ideal TransitionRefIdeal.S3x640x768 .f32) (v75 : Vec Ideal TransitionRefIdeal.S384 .f32) (v76 : Vec Ideal TransitionRefIdeal.S384x2x768 .bf16) (v77 : Vec Ideal TransitionRefIdeal.S768 .f32)
    (h : ∀ (n : Fin 640) (l : Fin 768), v109 (ix2 n l) = TransitionRefIdeal.Gen.k0_pay12 (F := Ideal) v58 v74 v75 v76 v77 (ix3 b n l))
    (hm : ∀ n : Fin 640, v112 (ix2 n 0) = Finset.univ.fold max (Ideal.ofBits .f32 0xFF800000#32) fun l : Fin 768 => (FloatOps.absf (v109 (ix2 n l)) : Ideal .f32)) (n : Fin 640) :
    TransitionIdeal.Gen.k0_pay18 (F := Ideal) v112 (ix2 n 0) = TransitionRefIdeal.Gen.k0_pay13 (F := Ideal) v58 v74 v75 v76 v77 (ix3 b n 0) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay18, TransitionRefIdeal.Gen.k0_pay13, h, hm]

end

section

/-- The largest absolute value per row. -/
theorem x2max (v55 : Vec Ideal TransitionIdeal.S640x768 .f32) (v65 : Vec Ideal TransitionIdeal.S640x384 .f32) (v70 : Vec Ideal TransitionIdeal.S640x1 .f32) (cst_40 : Ideal .f32) (v76 : Vec Ideal TransitionIdeal.S1x384 .f32) (v97 : Vec Ideal TransitionIdeal.S1x384x768 .bf16) (v100 : Vec Ideal TransitionIdeal.S1x768 .f32) (v106 : Vec Ideal TransitionIdeal.S1x384x768 .bf16) (n : Fin 640) :
    TransitionIdeal.Gen.k0_pay17 (F := Ideal) v55 v65 v70 cst_40 v76 v97 v100 v106 (ix2 n 0) = Finset.univ.fold max (Ideal.ofBits .f32 0xFF800000#32) fun l : Fin 768 => (FloatOps.absf (TransitionIdeal.Gen.k0_pay16 (F := Ideal) v55 v65 v70 cst_40 v76 v97 v100 v106 (ix2 n l)) : Ideal .f32) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay17]

end

section

/-- The codes of the second layer norm, given its values and scales. -/
theorem x2c (v109 : Vec Ideal TransitionIdeal.S640x768 .f32) (v112 : Vec Ideal TransitionIdeal.S640x1 .f32) (v58 : Vec Ideal TransitionRefIdeal.S3x640x384 .f32) (v74 : Vec Ideal TransitionRefIdeal.S3x640x768 .f32) (v75 : Vec Ideal TransitionRefIdeal.S384 .f32) (v76 : Vec Ideal TransitionRefIdeal.S384x2x768 .bf16) (v77 : Vec Ideal TransitionRefIdeal.S768 .f32)
    (h : ∀ (n : Fin 640) (l : Fin 768), v109 (ix2 n l) = TransitionRefIdeal.Gen.k0_pay12 (F := Ideal) v58 v74 v75 v76 v77 (ix3 b n l))
    (hs : ∀ n : Fin 640, TransitionIdeal.Gen.k0_pay18 (F := Ideal) v112 (ix2 n 0) = TransitionRefIdeal.Gen.k0_pay13 (F := Ideal) v58 v74 v75 v76 v77 (ix3 b n 0)) (n : Fin 640) (l : Fin 768) :
    TransitionIdeal.Gen.k0_pay19 (F := Ideal) v109 v112 (ix2 n l) = TransitionRefIdeal.Gen.k0_pay14 (F := Ideal) v58 v74 v75 v76 v77 (ix3 b n l) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay19, TransitionRefIdeal.Gen.k0_pay14, h, hs]

end

section

/-- The codes of the second layer norm as the kernel stores them. -/
theorem x2co (v109 : Vec Ideal TransitionIdeal.S640x768 .f32) (v112 : Vec Ideal TransitionIdeal.S640x1 .f32) (n : Fin 640) (l : Fin 768) : TransitionIdeal.Gen.k0_pay20 (F := Ideal) v109 v112 (ix3 0 n l) = TransitionIdeal.Gen.k0_pay19 (F := Ideal) v109 v112 (ix2 n l) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay20]

end

section

/-- Its scales as the kernel stores them. -/
theorem x2so (v112 : Vec Ideal TransitionIdeal.S640x1 .f32) (n : Fin 640) : TransitionIdeal.Gen.k0_pay21 (F := Ideal) v112 (ix2 0 n) = TransitionIdeal.Gen.k0_pay18 (F := Ideal) v112 (ix2 n 0) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay21]

end

section

/-- Its scales as the reference stores them. -/
theorem x2sr (v58 : Vec Ideal TransitionRefIdeal.S3x640x384 .f32) (v74 : Vec Ideal TransitionRefIdeal.S3x640x768 .f32) (v75 : Vec Ideal TransitionRefIdeal.S384 .f32) (v76 : Vec Ideal TransitionRefIdeal.S384x2x768 .bf16) (v77 : Vec Ideal TransitionRefIdeal.S768 .f32) (n : Fin 640) :
    TransitionRefIdeal.Gen.k0_pay15 (F := Ideal) v58 v74 v75 v76 v77 (ix2 b n) = TransitionRefIdeal.Gen.k0_pay13 (F := Ideal) v58 v74 v75 v76 v77 (ix3 b n 0) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionRefIdeal.Gen.k0_pay15]

end

section

/-- The gate half of the hidden projection at one point. -/
theorem gate_k (v109 : Vec Ideal TransitionIdeal.S640x768 .f32) (v112 : Vec Ideal TransitionIdeal.S640x1 .f32) (v135 : Vec Ideal TransitionIdeal.S1x768x1536 .fp8e4m3) (v140 : Vec Ideal TransitionIdeal.S1x1536 .f32) (n : Fin 640) (k : Fin 1536) :
    TransitionIdeal.Gen.k0_pay22 (F := Ideal) v109 v112 v135 v140 (ix2 n k) = (∑ x : Fin 768, TransitionIdeal.Gen.k0_pay19 (F := Ideal) v109 v112 (ix2 n x) * v135 (ix3 0 x k)) * TransitionIdeal.Gen.k0_pay18 (F := Ideal) v112 (ix2 n 0) * v140 (ix2 0 k) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay22]

/-- The up half at one point, before the column scale. -/
theorem up_k (v109 : Vec Ideal TransitionIdeal.S640x768 .f32) (v112 : Vec Ideal TransitionIdeal.S640x1 .f32) (v143 : Vec Ideal TransitionIdeal.S1x768x1536 .fp8e4m3) (n : Fin 640) (k : Fin 1536) :
    TransitionIdeal.Gen.k0_pay23 (F := Ideal) v109 v112 v143 (ix2 n k) = (∑ x : Fin 768, TransitionIdeal.Gen.k0_pay19 (F := Ideal) v109 v112 (ix2 n x) * v143 (ix3 0 x k)) * TransitionIdeal.Gen.k0_pay18 (F := Ideal) v112 (ix2 n 0) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay23]

/-- The column scale, spread over the rows. -/
theorem ups_k (v148 : Vec Ideal TransitionIdeal.S1x1536 .f32) (n : Fin 640) (k : Fin 1536) : TransitionIdeal.Gen.k0_pay24 (F := Ideal) v148 (ix2 n k) = v148 (ix2 0 k) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay24]

end

section

/-- The reference's hidden projection at one point. -/
theorem h_r (v58 : Vec Ideal TransitionRefIdeal.S3x640x384 .f32) (v74 : Vec Ideal TransitionRefIdeal.S3x640x768 .f32) (v75 : Vec Ideal TransitionRefIdeal.S384 .f32) (v76 : Vec Ideal TransitionRefIdeal.S384x2x768 .bf16) (v77 : Vec Ideal TransitionRefIdeal.S768 .f32) (v110 : Vec Ideal TransitionRefIdeal.S768x2x1536 .fp8e4m3) (v115 : Vec Ideal TransitionRefIdeal.S2x1536 .f32) (n : Fin 640) (h : Fin 2) (k : Fin 1536) :
    TransitionRefIdeal.Gen.k0_pay16 (F := Ideal) v58 v74 v75 v76 v77 v110 v115 (ix4 b n h k) =
      (∑ x : Fin 768, TransitionRefIdeal.Gen.k0_pay14 (F := Ideal) v58 v74 v75 v76 v77 (ix3 b n x) * v110 (ix3 x h k)) * TransitionRefIdeal.Gen.k0_pay13 (F := Ideal) v58 v74 v75 v76 v77 (ix3 b n 0) * v115 (ix2 h k) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionRefIdeal.Gen.k0_pay16, TransitionRefIdeal.Gen.k0_pay15]

/-- Its gate half through the activation. -/
theorem gate_r (v58 : Vec Ideal TransitionRefIdeal.S3x640x384 .f32) (v74 : Vec Ideal TransitionRefIdeal.S3x640x768 .f32) (v75 : Vec Ideal TransitionRefIdeal.S384 .f32) (v76 : Vec Ideal TransitionRefIdeal.S384x2x768 .bf16) (v77 : Vec Ideal TransitionRefIdeal.S768 .f32) (v110 : Vec Ideal TransitionRefIdeal.S768x2x1536 .fp8e4m3) (v115 : Vec Ideal TransitionRefIdeal.S2x1536 .f32) (n : Fin 640) (k : Fin 1536) :
    TransitionRefIdeal.Gen.k0_pay17 (F := Ideal) v58 v74 v75 v76 v77 v110 v115 (ix3 b n k) = TransitionRefIdeal.Gen.k0_pay16 (F := Ideal) v58 v74 v75 v76 v77 v110 v115 (ix4 b n 0 k) * Ideal.logistic (TransitionRefIdeal.Gen.k0_pay16 (F := Ideal) v58 v74 v75 v76 v77 v110 v115 (ix4 b n 0 k)) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionRefIdeal.Gen.k0_pay17]

/-- Its up half. -/
theorem up_r (v58 : Vec Ideal TransitionRefIdeal.S3x640x384 .f32) (v74 : Vec Ideal TransitionRefIdeal.S3x640x768 .f32) (v75 : Vec Ideal TransitionRefIdeal.S384 .f32) (v76 : Vec Ideal TransitionRefIdeal.S384x2x768 .bf16) (v77 : Vec Ideal TransitionRefIdeal.S768 .f32) (v110 : Vec Ideal TransitionRefIdeal.S768x2x1536 .fp8e4m3) (v115 : Vec Ideal TransitionRefIdeal.S2x1536 .f32) (n : Fin 640) (k : Fin 1536) :
    TransitionRefIdeal.Gen.k0_pay18 (F := Ideal) v58 v74 v75 v76 v77 v110 v115 (ix3 b n k) = TransitionRefIdeal.Gen.k0_pay16 (F := Ideal) v58 v74 v75 v76 v77 v110 v115 (ix4 b n 1 k) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionRefIdeal.Gen.k0_pay18]

end

section

variable (v142 v147 v149 : Vec Ideal TransitionIdeal.S640x1536 .f32) (v122 v124 : Vec Ideal TransitionRefIdeal.S3x640x1536 .f32)

/-- The gated hidden layer, given the halves. -/
theorem hid_kr (h1 : ∀ (n : Fin 640) (k : Fin 1536), v142 (ix2 n k) * Ideal.logistic (v142 (ix2 n k)) = v122 (ix3 b n k))
    (h2 : ∀ (n : Fin 640) (k : Fin 1536), v147 (ix2 n k) * v149 (ix2 n k) = v124 (ix3 b n k)) (n : Fin 640) (k : Fin 1536) :
    TransitionIdeal.Gen.k0_pay25 (F := Ideal) v142 v147 v149 (ix2 n k) = TransitionRefIdeal.Gen.k0_pay19 (F := Ideal) v122 v124 (ix3 b n k) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay25, TransitionRefIdeal.Gen.k0_pay19, ← h1, ← h2]

/-- Its scale. -/
theorem hids (h : ∀ (n : Fin 640) (k : Fin 1536), TransitionIdeal.Gen.k0_pay25 (F := Ideal) v142 v147 v149 (ix2 n k) = TransitionRefIdeal.Gen.k0_pay19 (F := Ideal) v122 v124 (ix3 b n k)) (n : Fin 640) :
    TransitionIdeal.Gen.k0_pay26 (F := Ideal) v142 v147 v149 (ix2 n 0) = TransitionRefIdeal.Gen.k0_pay20 (F := Ideal) v122 v124 (ix3 b n 0) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay26, TransitionRefIdeal.Gen.k0_pay20, h]

/-- Its codes. -/
theorem hidc (h : ∀ (n : Fin 640) (k : Fin 1536), TransitionIdeal.Gen.k0_pay25 (F := Ideal) v142 v147 v149 (ix2 n k) = TransitionRefIdeal.Gen.k0_pay19 (F := Ideal) v122 v124 (ix3 b n k)) (n : Fin 640) (k : Fin 1536) :
    TransitionIdeal.Gen.k0_pay27 (F := Ideal) v142 v147 v149 (ix2 n k) = TransitionRefIdeal.Gen.k0_pay21 (F := Ideal) v122 v124 (ix3 b n k) := by
  have hs := hids b v142 v147 v149 v122 v124 h
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay27, TransitionRefIdeal.Gen.k0_pay21, h, hs]

/-- Its codes as the kernel stores them. -/
theorem hidco (n : Fin 640) (k : Fin 1536) : TransitionIdeal.Gen.k0_pay28 (F := Ideal) v142 v147 v149 (ix3 0 n k) = TransitionIdeal.Gen.k0_pay27 (F := Ideal) v142 v147 v149 (ix2 n k) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay28]

/-- Its scales as the kernel stores them. -/
theorem hidso (n : Fin 640) : TransitionIdeal.Gen.k0_pay29 (F := Ideal) v142 v147 v149 (ix2 0 n) = TransitionIdeal.Gen.k0_pay26 (F := Ideal) v142 v147 v149 (ix2 n 0) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay29]

/-- Its scales as the reference stores them. -/
theorem hidsr (n : Fin 640) : TransitionRefIdeal.Gen.k0_pay22 (F := Ideal) v122 v124 (ix2 b n) = TransitionRefIdeal.Gen.k0_pay20 (F := Ideal) v122 v124 (ix3 b n 0) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionRefIdeal.Gen.k0_pay22]

end

section

/-- The output projection at one point. -/
theorem out_k (v142 v147 v149 : Vec Ideal TransitionIdeal.S640x1536 .f32) (v179 : Vec Ideal TransitionIdeal.S1536x768 .fp8e4m3) (v183 : Vec Ideal TransitionIdeal.S1x768 .f32) (n : Fin 640) (l : Fin 768) :
    TransitionIdeal.Gen.k0_pay30 (F := Ideal) v142 v147 v149 v179 v183 (ix2 n l) = (∑ k : Fin 1536, TransitionIdeal.Gen.k0_pay27 (F := Ideal) v142 v147 v149 (ix2 n k) * v179 (ix2 k l)) * TransitionIdeal.Gen.k0_pay26 (F := Ideal) v142 v147 v149 (ix2 n 0) * v183 (ix2 0 l) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay30]

/-- The kernel's `y` at one point. -/
theorem y_k (v29 : Vec Ideal TransitionIdeal.S640x384 .bf16) (v55 v186 : Vec Ideal TransitionIdeal.S640x768 .f32) (v187 : Vec Ideal TransitionIdeal.S1x384x768 .bf16) (v190 : Vec Ideal TransitionIdeal.S1x768 .f32) (n : Fin 640) (l : Fin 768) :
    TransitionIdeal.Gen.k0_pay1 (F := Ideal) v29 v55 v186 (TransitionIdeal.Gen.k0_pay31 (F := Ideal) v187) (constant TransitionIdeal.S640x768 .f32 0x00000000#32) v190 (ix3 0 n l) =
      (v55 (ix2 n l) + Ideal.logistic (∑ x : Fin 384, v29 (ix2 n x) * v187 (ix3 0 x l) + v190 (ix2 0 l)) * v186 (ix2 n l) : EReal) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay1, TransitionIdeal.Gen.k0_pay31]

end

section

/-- The reference's `y` at one point. -/
theorem y_r (v32 : Vec Ideal TransitionRefIdeal.S3x640x2x768 .f32) (v33 : Vec Ideal TransitionRefIdeal.S2x768 .f32) (v41 : Vec Ideal TransitionRefIdeal.S3x640x768 .f32) (v122 v124 : Vec Ideal TransitionRefIdeal.S3x640x1536 .f32) (v143 : Vec Ideal TransitionRefIdeal.S1536x768 .fp8e4m3) (v148 : Vec Ideal TransitionRefIdeal.S768 .f32) (n : Fin 640) (l : Fin 768) :
    TransitionRefIdeal.Gen.k0_pay23 (F := Ideal) (TransitionRefIdeal.Gen.k0_pay8 (F := Ideal) v32 v33) v41 v122 v124 v143 v148 (ix3 b n l) =
      (v41 (ix3 b n l) + Ideal.logistic (v32 (ix4 b n 1 l) + v33 (ix2 1 l)) *
        ((∑ k : Fin 1536, TransitionRefIdeal.Gen.k0_pay21 (F := Ideal) v122 v124 (ix3 b n k) * v143 (ix2 k l)) * TransitionRefIdeal.Gen.k0_pay20 (F := Ideal) v122 v124 (ix3 b n 0) * v148 (ix1 l)) : EReal) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionRefIdeal.Gen.k0_pay23, TransitionRefIdeal.Gen.k0_pay22, TransitionRefIdeal.Gen.k0_pay8]

end

end Cert.Hand.T

end

end
-- ==== Proof.TransPure.lean ====
/- The values of the `transition` call and of its reference agree, stage by stage. -/
module

public import proofs.«01_k».proof.Proof.Gen.TransitionIdeal.Skeleton
public import proofs.«01_k».proof.Proof.Gen.TransitionRefIdeal.Skeleton
public import proofs.«01_k».proof.Proof.IdealFacts
public import proofs.«01_k».proof.Proof.TransPoint

@[expose] public section

set_option maxRecDepth 16384

noncomputable section

namespace Cert.Hand.T

open Idealize.ShloMosaic Cert Cert.Hand

variable (b : Fin 3)

/-- The single conditioning, read as a matrix. -/
theorem s_k (L2 : Vec Ideal TransitionIdeal.S1x640x384 .bf16) (n : Fin 640) (x : Fin 384) : TransitionIdeal.Gen.k0_pay10 (F := Ideal) L2 (ix2 n x) = L2 (ix3 0 n x) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay10]

/-- `a_mid` as stored, from the residual stream. -/
theorem am_o (v14 : Vec Ideal TransitionIdeal.S1x640 .f32) (v29 : Vec Ideal TransitionIdeal.S640x384 .bf16) (v30 : Vec Ideal TransitionIdeal.S768x640 .fp8e4m3) (v31 : Vec Ideal TransitionIdeal.S16x48x768 .fp8e4m3) (v40 : Vec Ideal TransitionIdeal.S1x768 .f32) (v44 : Vec Ideal TransitionIdeal.S1x640x768 .bf16) (v47 : Vec Ideal TransitionIdeal.S1x384x768 .bf16) (v50 : Vec Ideal TransitionIdeal.S1x768 .f32)
    (n : Fin 640) (l : Fin 768) : TransitionIdeal.Gen.k0_pay13 (F := Ideal) v14 v29 v30 v31 v40 v44 v47 v50 (ix3 0 n l) = TransitionIdeal.Gen.k0_pay12 (F := Ideal) v14 v29 v30 v31 v40 v44 v47 v50 (ix2 n l) := by
  set_option backward.isDefEq.respectTransparency false in
  simp -implicitDefEqProofs -failIfUnchanged only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero, TransitionIdeal.Gen.k0_pay13]

/-- The residual streams agree. -/
theorem am_eq (L0 : Vec Ideal TransitionIdeal.S1x16x48x640 .f32) (L1 : Vec Ideal TransitionIdeal.S1x640x768 .bf16) (L2 : Vec Ideal TransitionIdeal.S1x640x384 .bf16) (S0 : Vec Ideal TransitionIdeal.S1x384x768 .bf16) (L5 : Vec Ideal TransitionIdeal.S1x768 .f32) (L8 : Vec Ideal TransitionIdeal.S16x48x768 .fp8e4m3) (L9 : Vec Ideal TransitionIdeal.S1x768 .f32)
    (X0 : Vec Ideal TransitionRefIdeal.S3x16x48x640 .f32) (X1 : Vec Ideal TransitionRefIdeal.S3x640x768 .bf16) (X2 : Vec Ideal TransitionRefIdeal.S3x640x384 .bf16) (X4 : Vec Ideal TransitionRefIdeal.S384x2x768 .bf16) (X5 : Vec Ideal TransitionRefIdeal.S2x768 .f32) (X8 : Vec Ideal TransitionRefIdeal.S16x48x768 .fp8e4m3) (X9 : Vec Ideal TransitionRefIdeal.S768 .f32)
    (h0 : ∀ (e : Fin 16) (d : Fin 48) (n : Fin 640), L0 (ix4 0 e d n) = X0 (ix4 b e d n))
    (h1 : ∀ (n : Fin 640) (l : Fin 768), L1 (ix3 0 n l) = X1 (ix3 b n l))
    (h2 : ∀ (n : Fin 640) (l : Fin 384), L2 (ix3 0 n l) = X2 (ix3 b n l))
    (h4 : ∀ (x : Fin 384) (l : Fin 768), S0 (ix3 0 x l) = X4 (ix3 x 0 l))
    (h5 : ∀ (l : Fin 768), L5 (ix2 0 l) = X5 (ix2 0 l))
    (h8 : ∀ (e : Fin 16) (d : Fin 48) (l : Fin 768), L8 (ix3 e d l) = X8 (ix3 e d l))
    (h9 : ∀ (l : Fin 768), L9 (ix2 0 l) = X9 (ix1 l)) (n : Fin 640) (l : Fin 768) :
    TransitionIdeal.Gen.k0_pay12 (F := Ideal) (TransitionIdeal.Gen.k0_pay7 (F := Ideal) L0) (TransitionIdeal.Gen.k0_pay10 (F := Ideal) L2) (TransitionIdeal.Gen.k0_pay11 (F := Ideal) L0) L8 L9 L1 S0 L5 (ix2 n l) = TransitionRefIdeal.Gen.k0_pay9 (F := Ideal) (TransitionRefIdeal.Gen.k0_pay1 (F := Ideal) X1) (TransitionRefIdeal.Gen.k0_pay6 (F := Ideal) X0 X8 X9) (TransitionRefIdeal.Gen.k0_pay7 (F := Ideal) X2 X4) X5 (ix3 b n l) := by
  rw [am_k, am_r b, am_r6 b, gs_r b, ← sum_merge fun e d => TransitionRefIdeal.Gen.k0_pay4 (F := Ideal) X0 (ix4 b n e d) * X8 (ix3 e d l)]
  simp only [ogm, ogc b L0 X0 h0, ogs3 b L0 X0 h0, s_k, h1, h2, h4, h5, h8, h9]

/-- The modulated layer norms agree. -/
theorem x2_eq (v55 : Vec Ideal TransitionIdeal.S640x768 .f32) (L2 : Vec Ideal TransitionIdeal.S1x640x384 .bf16) (L3 : Vec Ideal TransitionIdeal.S1x384 .f32) (S0 S1 : Vec Ideal TransitionIdeal.S1x384x768 .bf16) (L7 : Vec Ideal TransitionIdeal.S1x768 .f32)
    (v1 v30 : Vec Ideal TransitionRefIdeal.S3x640x768 .f32) (v32 : Vec Ideal TransitionRefIdeal.S3x640x2x768 .f32) (v33 : Vec Ideal TransitionRefIdeal.S2x768 .f32) (X2 : Vec Ideal TransitionRefIdeal.S3x640x384 .bf16) (X3 : Vec Ideal TransitionRefIdeal.S384 .f32) (X6 : Vec Ideal TransitionRefIdeal.S384x2x768 .bf16) (X7 : Vec Ideal TransitionRefIdeal.S768 .f32)
    (h : ∀ (n : Fin 640) (l : Fin 768), v55 (ix2 n l) = TransitionRefIdeal.Gen.k0_pay9 (F := Ideal) v1 v30 v32 v33 (ix3 b n l))
    (h2 : ∀ (n : Fin 640) (l : Fin 384), L2 (ix3 0 n l) = X2 (ix3 b n l))
    (h3 : ∀ (x : Fin 384), L3 (ix2 0 x) = X3 (ix1 x))
    (h60 : ∀ (x : Fin 384) (l : Fin 768), S0 (ix3 0 x l) = X6 (ix3 x 0 l))
    (h61 : ∀ (x : Fin 384) (l : Fin 768), S1 (ix3 0 x l) = X6 (ix3 x 1 l))
    (h7 : ∀ (l : Fin 768), L7 (ix2 0 l) = X7 (ix1 l)) (n : Fin 640) (l : Fin 768) :
    TransitionIdeal.Gen.k0_pay16 (F := Ideal) v55 (TransitionIdeal.Gen.k0_pay14 (F := Ideal) (TransitionIdeal.Gen.k0_pay10 (F := Ideal) L2)) (TransitionIdeal.Gen.k0_pay15 (F := Ideal) (TransitionIdeal.Gen.k0_pay10 (F := Ideal) L2)) (Ideal.ofBits FTy.f32 0x3727C5AC#32) L3 S0 L7 S1 (ix2 n l) = TransitionRefIdeal.Gen.k0_pay12 (F := Ideal) (TransitionRefIdeal.Gen.k0_pay10 (F := Ideal) X2) (TransitionRefIdeal.Gen.k0_pay11 (F := Ideal) v1 v30 v32 v33) X3 X6 X7 (ix3 b n l) := by
  have e := ls_kr b (TransitionIdeal.Gen.k0_pay10 (F := Ideal) L2) X2 fun n x => (s_k L2 n x).trans (h2 n x)
  rw [x2_k, x2_r b, ln_r b]
  simp only [h, e, h3, h60, h61, h7]

variable (v109 : Vec Ideal TransitionIdeal.S640x768 .f32) (v112 : Vec Ideal TransitionIdeal.S640x1 .f32) (G0 G1 : Vec Ideal TransitionIdeal.S1x768x1536 .fp8e4m3) (P0 P1 : Vec Ideal TransitionIdeal.S1x1536 .f32)
  (v58 : Vec Ideal TransitionRefIdeal.S3x640x384 .f32) (v74 : Vec Ideal TransitionRefIdeal.S3x640x768 .f32) (X3 : Vec Ideal TransitionRefIdeal.S384 .f32) (X6 : Vec Ideal TransitionRefIdeal.S384x2x768 .bf16) (X7 : Vec Ideal TransitionRefIdeal.S768 .f32) (X10 : Vec Ideal TransitionRefIdeal.S768x2x1536 .fp8e4m3) (X11 : Vec Ideal TransitionRefIdeal.S2x1536 .f32)
  (hc : ∀ (n : Fin 640) (l : Fin 768), TransitionIdeal.Gen.k0_pay19 (F := Ideal) v109 v112 (ix2 n l) = TransitionRefIdeal.Gen.k0_pay14 (F := Ideal) v58 v74 X3 X6 X7 (ix3 b n l))
  (hs : ∀ n : Fin 640, TransitionIdeal.Gen.k0_pay18 (F := Ideal) v112 (ix2 n 0) = TransitionRefIdeal.Gen.k0_pay13 (F := Ideal) v58 v74 X3 X6 X7 (ix3 b n 0))

include hc hs in
/-- The gate halves agree through the activation. -/
theorem gate_eq (h10 : ∀ (x : Fin 768) (k : Fin 1536), G0 (ix3 0 x k) = X10 (ix3 x 0 k)) (h11 : ∀ k : Fin 1536, P0 (ix2 0 k) = X11 (ix2 0 k)) (n : Fin 640) (k : Fin 1536) :
    TransitionIdeal.Gen.k0_pay22 (F := Ideal) v109 v112 G0 P0 (ix2 n k) * Ideal.logistic (TransitionIdeal.Gen.k0_pay22 (F := Ideal) v109 v112 G0 P0 (ix2 n k)) = TransitionRefIdeal.Gen.k0_pay17 (F := Ideal) v58 v74 X3 X6 X7 X10 X11 (ix3 b n k) := by
  rw [gate_k, gate_r b, h_r b]
  simp only [hc, hs, h10, h11]

include hc hs in
/-- The up halves agree. -/
theorem up_eq (h10 : ∀ (x : Fin 768) (k : Fin 1536), G1 (ix3 0 x k) = X10 (ix3 x 1 k)) (h11 : ∀ k : Fin 1536, P1 (ix2 0 k) = X11 (ix2 1 k)) (n : Fin 640) (k : Fin 1536) :
    TransitionIdeal.Gen.k0_pay23 (F := Ideal) v109 v112 G1 (ix2 n k) * TransitionIdeal.Gen.k0_pay24 (F := Ideal) P1 (ix2 n k) = TransitionRefIdeal.Gen.k0_pay18 (F := Ideal) v58 v74 X3 X6 X7 X10 X11 (ix3 b n k) := by
  rw [up_k, up_r b, h_r b, ups_k]
  simp only [hc, hs, h10, h11]

/-- The results `y` agree. -/
theorem y_eq (L2 : Vec Ideal TransitionIdeal.S1x640x384 .bf16) (v55 : Vec Ideal TransitionIdeal.S640x768 .f32) (v142 v147 v149 : Vec Ideal TransitionIdeal.S640x1536 .f32) (L12 : Vec Ideal TransitionIdeal.S1536x768 .fp8e4m3) (L13 : Vec Ideal TransitionIdeal.S1x768 .f32) (S1 : Vec Ideal TransitionIdeal.S1x384x768 .bf16) (L5 : Vec Ideal TransitionIdeal.S1x768 .f32)
    (X2 : Vec Ideal TransitionRefIdeal.S3x640x384 .bf16) (X4 : Vec Ideal TransitionRefIdeal.S384x2x768 .bf16) (X5 : Vec Ideal TransitionRefIdeal.S2x768 .f32) (v41 : Vec Ideal TransitionRefIdeal.S3x640x768 .f32) (v122 v124 : Vec Ideal TransitionRefIdeal.S3x640x1536 .f32) (X12 : Vec Ideal TransitionRefIdeal.S1536x768 .fp8e4m3) (X13 : Vec Ideal TransitionRefIdeal.S768 .f32)
    (h2 : ∀ (n : Fin 640) (l : Fin 384), L2 (ix3 0 n l) = X2 (ix3 b n l))
    (h4 : ∀ (x : Fin 384) (l : Fin 768), S1 (ix3 0 x l) = X4 (ix3 x 1 l))
    (h5 : ∀ (l : Fin 768), L5 (ix2 0 l) = X5 (ix2 1 l))
    (h12 : ∀ (k : Fin 1536) (l : Fin 768), L12 (ix2 k l) = X12 (ix2 k l))
    (h13 : ∀ (l : Fin 768), L13 (ix2 0 l) = X13 (ix1 l))
    (h : ∀ (n : Fin 640) (l : Fin 768), v55 (ix2 n l) = v41 (ix3 b n l))
    (hd : ∀ (n : Fin 640) (k : Fin 1536), TransitionIdeal.Gen.k0_pay25 (F := Ideal) v142 v147 v149 (ix2 n k) = TransitionRefIdeal.Gen.k0_pay19 (F := Ideal) v122 v124 (ix3 b n k)) (n : Fin 640) (l : Fin 768) :
    TransitionIdeal.Gen.k0_pay1 (F := Ideal) (TransitionIdeal.Gen.k0_pay10 (F := Ideal) L2) v55 (TransitionIdeal.Gen.k0_pay30 (F := Ideal) v142 v147 v149 L12 L13) (TransitionIdeal.Gen.k0_pay31 (F := Ideal) S1) (constant TransitionIdeal.S640x768 .f32 0x00000000#32) L5 (ix3 0 n l) =
      (TransitionRefIdeal.Gen.k0_pay23 (F := Ideal) (TransitionRefIdeal.Gen.k0_pay8 (F := Ideal) (TransitionRefIdeal.Gen.k0_pay7 (F := Ideal) X2 X4) X5) v41 v122 v124 X12 X13 (ix3 b n l) : EReal) := by
  have e1 := hidc b v142 v147 v149 v122 v124 hd
  have e2 := hids b v142 v147 v149 v122 v124 hd
  rw [y_k, y_r b, gs_r b, out_k]
  simp only [e1, e2, s_k, h, h2, h4, h5, h12, h13]

end Cert.Hand.T

end

end
-- ==== Proof.TransitionKit.lean ====
/- The pieces of the hand-written frame of the `transition` call: its branch condition, its staging and scratch memrefs, what the
   carried scratch holds after the first grid point, and what each output block holds after the body, as functions of the
   contents of the input blocks and of the scratch. -/
module

public import proofs.«01_k».proof.Proof.Gen.TransitionIdeal.Skeleton
public import proofs.«01_k».proof.Proof.Gen.TransitionIdeal.Frame
public import proofs.«01_k».proof.Proof.RowStore
public import Idealize.ShloMosaic.Lib.Pointwise
public import Idealize.ShloMosaic.Lib.VecWindow

@[expose] public section

set_option maxRecDepth 16384

noncomputable section

namespace Cert.TransitionIdeal.Hand

open Cert.Hand Cert.TransitionIdeal Cert.TransitionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

set_option maxHeartbeats 1320000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post at any `F`. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (Pipeline.mem_restRefs_of main_arg7 (by decide) (by decide))).trans (V_main_arg7 m c),
      (Pipeline.RDat.FramePost.arr_in h c 8 rfl).trans ((hA c 8).trans (V_main_arg8 m c)),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      (Pipeline.RDat.FramePost.arr_in h c 11 rfl).trans ((hA c 11).trans (V_main_arg11 m c)),
      (Pipeline.RDat.FramePost.arr_in h c 12 rfl).trans ((hA c 12).trans (V_main_arg12 m c)),
      ((h c).2 main_arg13 (Pipeline.mem_restRefs_of main_arg13 (by decide) (by decide))).trans (V_main_arg13 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 3 = 0 :=
  (fun t => by
    have ht : t.val < 3 := Nat.lt_of_lt_of_eq t.isLt N_0
    have e0 : (grid0.coords t 0).val = t.val / 1 % 3 := Pipeline.Grid.coords_val t 0 (by decide) rfl
    simp only [cond0_0, e0]
    word_cmp
   : ∀ t : Fin grid0.N, cond0_0 (grid0.coords t) ↔ t.val % 3 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x16x48x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x640x384 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S384x2x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S384x2x768 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x48x768 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x768 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x768x1536 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x1536 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1536x768 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x768 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x640x768 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x640x768 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x16x48x640 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S3x640 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x640x768 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S3x640 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x640x1536 .fp8e4m3 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S3x640 .f32 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S2x384x768 .bf16 := Memref.whole cc0_scratch0
abbrev scM0_1 : Memref sig .tc .vmem S2x384x768 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- A stored row's offsets: row `i 0`, column 0. -/
theorem koff (i : grid0.Coords) : k0_off1 i = ![(i 0).val, 0] := by
  have h : (i 0).val < 3 := (i 0).isLt
  unfold k0_off1
  generalize (i 0).val = v at h ⊢
  interval_cases v <;> rfl

/-- What scratch 0 holds once filled: the two halves of the weight array, stacked along a new leading axis. -/
def scr0 (x4 : Vec F S384x2x768 .bf16) : Vec F S2x384x768 .bf16 := fun j => x4 (ix3 (j 1) (j 0) (j 2))

/-- The two stores that fill scratch 0 leave it at `scr0`. -/
theorem scr0_read {κ : Kind} {sp : Space} (v : View sig κ sp S2x384x768 .bf16) (f : v.ty.Contents (Elt F)) (x4 : Vec F S384x2x768 .bf16) :
    v.read (Elt F) (v.writes (Elt F) f
      [⟨(Rect.unit (s := S2x384x768) ![1, 0, 0] S1x384x768.size inb_S2x384x768_S1x384x768_1_0_0), k0_pay3 (View.ld x4 (Rect.unit (s := S384x2x768) ![0, 1, 0] S384x1x768.size inb_S384x2x768_S384x1x768_0_1_0))⟩,
       ⟨(Rect.unit (s := S2x384x768) ![0, 0, 0] S1x384x768.size inb_S2x384x768_S1x384x768_0_0_0), k0_pay2 (View.ld x4 (Rect.unit (s := S384x2x768) ![0, 0, 0] S384x1x768.size inb_S384x2x768_S384x1x768_0_0_0))⟩]) = scr0 x4 := by
  funext j
  obtain ⟨h, r, l, rfl⟩ : ∃ (h : Fin 2) (r : Fin 384) (l : Fin 768), j = ix3 h r l := ⟨j 0, j 1, j 2, by funext a; fin_cases a <;> rfl⟩
  by_cases hh : h.val = 1
  · refine (View.read_writes_cons_unit_of_mem v f _ _ _ (ix3 h r l) (ix3 0 r l) rfl ?_).trans ?_
    · intro a; fin_cases a
      · simpa using hh
      · simp
      · simp
    · obtain rfl : h = 1 := Fin.ext hh
      pointwise [k0_pay3, scr0]
  · have h0 : h.val = 0 := by omega
    refine (View.read_writes_cons_unit_of_not_mem v f _ _ _ (ix3 h r l) rfl (0 : Fin 3) (.inl ?_)).trans ?_
    · simpa using h0
    refine (View.read_writes_cons_unit_of_mem v f _ _ _ (ix3 h r l) (ix3 0 r l) rfl ?_).trans ?_
    · intro a; fin_cases a
      · simpa using h0
      · simp
      · simp
    · obtain rfl : h = 0 := Fin.ext h0
      pointwise [k0_pay2, scr0]

/-- What scratch 1 holds once filled: the two halves of the weight array, stacked along a new leading axis. -/
def scr1 (x6 : Vec F S384x2x768 .bf16) : Vec F S2x384x768 .bf16 := fun j => x6 (ix3 (j 1) (j 0) (j 2))

/-- The two stores that fill scratch 1 leave it at `scr1`. -/
theorem scr1_read {κ : Kind} {sp : Space} (v : View sig κ sp S2x384x768 .bf16) (f : v.ty.Contents (Elt F)) (x6 : Vec F S384x2x768 .bf16) :
    v.read (Elt F) (v.writes (Elt F) f
      [⟨(Rect.unit (s := S2x384x768) ![1, 0, 0] S1x384x768.size inb_S2x384x768_S1x384x768_1_0_0), k0_pay5 (View.ld x6 (Rect.unit (s := S384x2x768) ![0, 1, 0] S384x1x768.size inb_S384x2x768_S384x1x768_0_1_0))⟩,
       ⟨(Rect.unit (s := S2x384x768) ![0, 0, 0] S1x384x768.size inb_S2x384x768_S1x384x768_0_0_0), k0_pay4 (View.ld x6 (Rect.unit (s := S384x2x768) ![0, 0, 0] S384x1x768.size inb_S384x2x768_S384x1x768_0_0_0))⟩]) = scr1 x6 := by
  funext j
  obtain ⟨h, r, l, rfl⟩ : ∃ (h : Fin 2) (r : Fin 384) (l : Fin 768), j = ix3 h r l := ⟨j 0, j 1, j 2, by funext a; fin_cases a <;> rfl⟩
  by_cases hh : h.val = 1
  · refine (View.read_writes_cons_unit_of_mem v f _ _ _ (ix3 h r l) (ix3 0 r l) rfl ?_).trans ?_
    · intro a; fin_cases a
      · simpa using hh
      · simp
      · simp
    · obtain rfl : h = 1 := Fin.ext hh
      pointwise [k0_pay5, scr1]
  · have h0 : h.val = 0 := by omega
    refine (View.read_writes_cons_unit_of_not_mem v f _ _ _ (ix3 h r l) rfl (0 : Fin 3) (.inl ?_)).trans ?_
    · simpa using h0
    refine (View.read_writes_cons_unit_of_mem v f _ _ _ (ix3 h r l) (ix3 0 r l) rfl ?_).trans ?_
    · intro a; fin_cases a
      · simpa using h0
      · simp
      · simp
    · obtain rfl : h = 0 := Fin.ext h0
      pointwise [k0_pay4, scr1]

/-- The residual stream after the gated output projection. -/
def am (x0 : Vec F S1x16x48x640 .f32) (x1 : Vec F S1x640x768 .bf16) (x2 : Vec F S1x640x384 .bf16) (x5 : Vec F S2x768 .f32) (x8 : Vec F S16x48x768 .fp8e4m3) (x9 : Vec F S1x768 .f32) (s0 : Vec F S2x384x768 .bf16) : FVec F S640x768 .f32 :=
  k0_pay12 (k0_pay7 (View.ld x0 (Rect.unit (s := S1x16x48x640) ![0, 0, 0, 0] S1x16x48x640.size inb_S1x16x48x640_S1x16x48x640_0_0_0_0))) (k0_pay10 (View.ld x2 (Rect.unit (s := S1x640x384) ![0, 0, 0] S1x640x384.size inb_S1x640x384_S1x640x384_0_0_0))) (k0_pay11 (View.ld x0 (Rect.unit (s := S1x16x48x640) ![0, 0, 0, 0] S1x16x48x640.size inb_S1x16x48x640_S1x16x48x640_0_0_0_0))) (View.ld x8 (Rect.unit (s := S16x48x768) ![0, 0, 0] S16x48x768.size inb_S16x48x768_S16x48x768_0_0_0)) (View.ld x9 (Rect.unit (s := S1x768) ![0, 0] S1x768.size inb_S1x768_S1x768_0_0)) (View.ld x1 (Rect.unit (s := S1x640x768) ![0, 0, 0] S1x640x768.size inb_S1x640x768_S1x640x768_0_0_0)) (View.ld s0 (Rect.unit (s := S2x384x768) ![0, 0, 0] S1x384x768.size inb_S2x384x768_S1x384x768_0_0_0)) (View.ld x5 (Rect.unit (s := S2x768) ![0, 0] S1x768.size inb_S2x768_S1x768_0_0))

/-- The modulated second layer norm. -/
def x2v (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (s0 : Vec F S2x384x768 .bf16) (s1 : Vec F S2x384x768 .bf16) : FVec F S640x768 .f32 :=
  k0_pay16 (am x0 x1 x2 x5 x8 x9 s0) (k0_pay14 (k0_pay10 (View.ld x2 (Rect.unit (s := S1x640x384) ![0, 0, 0] S1x640x384.size inb_S1x640x384_S1x640x384_0_0_0)))) (k0_pay15 (k0_pay10 (View.ld x2 (Rect.unit (s := S1x640x384) ![0, 0, 0] S1x640x384.size inb_S1x640x384_S1x640x384_0_0_0)))) (Scalar.ofBits .f32 0x3727C5AC#32) (View.ld x3 (Rect.unit (s := S1x384) ![0, 0] S1x384.size inb_S1x384_S1x384_0_0)) (View.ld s1 (Rect.unit (s := S2x384x768) ![0, 0, 0] S1x384x768.size inb_S2x384x768_S1x384x768_0_0_0)) (View.ld x7 (Rect.unit (s := S1x768) ![0, 0] S1x768.size inb_S1x768_S1x768_0_0)) (View.ld s1 (Rect.unit (s := S2x384x768) ![1, 0, 0] S1x384x768.size inb_S2x384x768_S1x384x768_1_0_0))

/-- Its largest absolute value per row. -/
def x2m (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (s0 : Vec F S2x384x768 .bf16) (s1 : Vec F S2x384x768 .bf16) : FVec F S640x1 .f32 :=
  k0_pay17 (am x0 x1 x2 x5 x8 x9 s0) (k0_pay14 (k0_pay10 (View.ld x2 (Rect.unit (s := S1x640x384) ![0, 0, 0] S1x640x384.size inb_S1x640x384_S1x640x384_0_0_0)))) (k0_pay15 (k0_pay10 (View.ld x2 (Rect.unit (s := S1x640x384) ![0, 0, 0] S1x640x384.size inb_S1x640x384_S1x640x384_0_0_0)))) (Scalar.ofBits .f32 0x3727C5AC#32) (View.ld x3 (Rect.unit (s := S1x384) ![0, 0] S1x384.size inb_S1x384_S1x384_0_0)) (View.ld s1 (Rect.unit (s := S2x384x768) ![0, 0, 0] S1x384x768.size inb_S2x384x768_S1x384x768_0_0_0)) (View.ld x7 (Rect.unit (s := S1x768) ![0, 0] S1x768.size inb_S1x768_S1x768_0_0)) (View.ld s1 (Rect.unit (s := S2x384x768) ![1, 0, 0] S1x384x768.size inb_S2x384x768_S1x384x768_1_0_0))

/-- The gate half of the hidden projection, scaled. -/
def gate (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (x10 : Vec F S2x768x1536 .fp8e4m3) (x11 : Vec F S2x1536 .f32) (s0 : Vec F S2x384x768 .bf16) (s1 : Vec F S2x384x768 .bf16) : FVec F S640x1536 .f32 :=
  k0_pay22 (x2v x0 x1 x2 x3 x5 x7 x8 x9 s0 s1) (x2m x0 x1 x2 x3 x5 x7 x8 x9 s0 s1) (View.ld x10 (Rect.unit (s := S2x768x1536) ![0, 0, 0] S1x768x1536.size inb_S2x768x1536_S1x768x1536_0_0_0)) (View.ld x11 (Rect.unit (s := S2x1536) ![0, 0] S1x1536.size inb_S2x1536_S1x1536_0_0))

/-- The up half of the hidden projection, scaled per row only. -/
def up (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (x10 : Vec F S2x768x1536 .fp8e4m3) (x11 : Vec F S2x1536 .f32) (s0 : Vec F S2x384x768 .bf16) (s1 : Vec F S2x384x768 .bf16) : FVec F S640x1536 .f32 :=
  k0_pay23 (x2v x0 x1 x2 x3 x5 x7 x8 x9 s0 s1) (x2m x0 x1 x2 x3 x5 x7 x8 x9 s0 s1) (View.ld x10 (Rect.unit (s := S2x768x1536) ![1, 0, 0] S1x768x1536.size inb_S2x768x1536_S1x768x1536_1_0_0))

/-- The block of `y`. -/
def o14 (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (x10 : Vec F S2x768x1536 .fp8e4m3) (x11 : Vec F S2x1536 .f32) (x12 : Vec F S1536x768 .fp8e4m3) (x13 : Vec F S1x768 .f32) (s0 : Vec F S2x384x768 .bf16) (s1 : Vec F S2x384x768 .bf16) : Vec F S1x640x768 .bf16 :=
  k0_pay1 (k0_pay10 (View.ld x2 (Rect.unit (s := S1x640x384) ![0, 0, 0] S1x640x384.size inb_S1x640x384_S1x640x384_0_0_0))) (am x0 x1 x2 x5 x8 x9 s0) (k0_pay30 (gate x0 x1 x2 x3 x5 x7 x8 x9 x10 x11 s0 s1) (up x0 x1 x2 x3 x5 x7 x8 x9 x10 x11 s0 s1) (k0_pay24 (View.ld x11 (Rect.unit (s := S2x1536) ![1, 0] S1x1536.size inb_S2x1536_S1x1536_1_0))) (View.ld x12 (Rect.unit (s := S1536x768) ![0, 0] S1536x768.size inb_S1536x768_S1536x768_0_0)) (View.ld x13 (Rect.unit (s := S1x768) ![0, 0] S1x768.size inb_S1x768_S1x768_0_0))) (k0_pay31 (View.ld s0 (Rect.unit (s := S2x384x768) ![1, 0, 0] S1x384x768.size inb_S2x384x768_S1x384x768_1_0_0))) (constant S640x768 .f32 0x00000000#32) (View.ld x5 (Rect.unit (s := S2x768) ![1, 0] S1x768.size inb_S2x768_S1x768_1_0))

/-- The block of `a_mid`. -/
def o15 (x0 : Vec F S1x16x48x640 .f32) (x1 : Vec F S1x640x768 .bf16) (x2 : Vec F S1x640x384 .bf16) (x5 : Vec F S2x768 .f32) (x8 : Vec F S16x48x768 .fp8e4m3) (x9 : Vec F S1x768 .f32) (s0 : Vec F S2x384x768 .bf16) : Vec F S1x640x768 .f32 :=
  k0_pay13 (k0_pay7 (View.ld x0 (Rect.unit (s := S1x16x48x640) ![0, 0, 0, 0] S1x16x48x640.size inb_S1x16x48x640_S1x16x48x640_0_0_0_0))) (k0_pay10 (View.ld x2 (Rect.unit (s := S1x640x384) ![0, 0, 0] S1x640x384.size inb_S1x640x384_S1x640x384_0_0_0))) (k0_pay11 (View.ld x0 (Rect.unit (s := S1x16x48x640) ![0, 0, 0, 0] S1x16x48x640.size inb_S1x16x48x640_S1x16x48x640_0_0_0_0))) (View.ld x8 (Rect.unit (s := S16x48x768) ![0, 0, 0] S16x48x768.size inb_S16x48x768_S16x48x768_0_0_0)) (View.ld x9 (Rect.unit (s := S1x768) ![0, 0] S1x768.size inb_S1x768_S1x768_0_0)) (View.ld x1 (Rect.unit (s := S1x640x768) ![0, 0, 0] S1x640x768.size inb_S1x640x768_S1x640x768_0_0_0)) (View.ld s0 (Rect.unit (s := S2x384x768) ![0, 0, 0] S1x384x768.size inb_S2x384x768_S1x384x768_0_0_0)) (View.ld x5 (Rect.unit (s := S2x768) ![0, 0] S1x768.size inb_S2x768_S1x768_0_0))

/-- The block of the codes of `o * g`. -/
def o16 (x0 : Vec F S1x16x48x640 .f32) : Vec F S1x16x48x640 .fp8e4m3 :=
  k0_pay9 (View.ld x0 (Rect.unit (s := S1x16x48x640) ![0, 0, 0, 0] S1x16x48x640.size inb_S1x16x48x640_S1x16x48x640_0_0_0_0))

/-- The row of the scales of `o * g`. -/
def o17 (x0 : Vec F S1x16x48x640 .f32) : Vec F S1x640 .f32 :=
  k0_pay7 (View.ld x0 (Rect.unit (s := S1x16x48x640) ![0, 0, 0, 0] S1x16x48x640.size inb_S1x16x48x640_S1x16x48x640_0_0_0_0))

/-- The block of the codes of the second layer norm. -/
def o18 (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (s0 : Vec F S2x384x768 .bf16) (s1 : Vec F S2x384x768 .bf16) : Vec F S1x640x768 .fp8e4m3 :=
  k0_pay20 (x2v x0 x1 x2 x3 x5 x7 x8 x9 s0 s1) (x2m x0 x1 x2 x3 x5 x7 x8 x9 s0 s1)

/-- The row of its scales. -/
def o19 (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (s0 : Vec F S2x384x768 .bf16) (s1 : Vec F S2x384x768 .bf16) : Vec F S1x640 .f32 :=
  k0_pay21 (x2m x0 x1 x2 x3 x5 x7 x8 x9 s0 s1)

/-- The block of the codes of the hidden layer. -/
def o20 (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (x10 : Vec F S2x768x1536 .fp8e4m3) (x11 : Vec F S2x1536 .f32) (s0 : Vec F S2x384x768 .bf16) (s1 : Vec F S2x384x768 .bf16) : Vec F S1x640x1536 .fp8e4m3 :=
  k0_pay28 (gate x0 x1 x2 x3 x5 x7 x8 x9 x10 x11 s0 s1) (up x0 x1 x2 x3 x5 x7 x8 x9 x10 x11 s0 s1) (k0_pay24 (View.ld x11 (Rect.unit (s := S2x1536) ![1, 0] S1x1536.size inb_S2x1536_S1x1536_1_0)))

/-- The row of its scales. -/
def o21 (x0 : Vec F S1x16x48x640 .f32) (x1 : Vec F S1x640x768 .bf16) (x2 : Vec F S1x640x384 .bf16) (x3 : Vec F S1x384 .f32) (x5 : Vec F S2x768 .f32) (x7 : Vec F S1x768 .f32) (x8 : Vec F S16x48x768 .fp8e4m3) (x9 : Vec F S1x768 .f32) (x10 : Vec F S2x768x1536 .fp8e4m3) (x11 : Vec F S2x1536 .f32) (s0 : Vec F S2x384x768 .bf16) (s1 : Vec F S2x384x768 .bf16) : Vec F S1x640 .f32 :=
  k0_pay29 (gate x0 x1 x2 x3 x5 x7 x8 x9 x10 x11 s0 s1) (up x0 x1 x2 x3 x5 x7 x8 x9 x10 x11 s0 s1) (k0_pay24 (View.ld x11 (Rect.unit (s := S2x1536) ![1, 0] S1x1536.size inb_S2x1536_S1x1536_1_0)))

/-- A load of half 0 of scratch 0 right after it is filled reads that half of `scr0`. -/
theorem scr0_cov0 {κ κ' : Kind} {sp sp' : Space} (v : View sig κ sp S2x384x768 .bf16) (u : View sig κ' sp' S384x2x768 .bf16) (f : u.ty.Contents (Elt F)) :
    v.readCov
      [⟨(Rect.unit (s := S2x384x768) ![1, 0, 0] ![1, 384, 768] inb_S2x384x768_S1x384x768_1_0_0), k0_pay3 (u.readAt (Elt F) (Rect.unit (s := S384x2x768) ![0, 1, 0] ![384, 1, 768] inb_S384x2x768_S384x1x768_0_1_0).toLoadRect f)⟩,
       ⟨(Rect.unit (s := S2x384x768) ![0, 0, 0] ![1, 384, 768] inb_S2x384x768_S1x384x768_0_0_0), k0_pay2 (u.readAt (Elt F) (Rect.unit (s := S384x2x768) ![0, 0, 0] ![384, 1, 768] inb_S384x2x768_S384x1x768_0_0_0).toLoadRect f)⟩] (Rect.unit (s := S2x384x768) ![0, 0, 0] ![1, 384, 768] inb_S2x384x768_S1x384x768_0_0_0).toLoadRect
      = View.ld (scr0 (u.read (Elt F) f)) (Rect.unit (s := S2x384x768) ![0, 0, 0] ![1, 384, 768] inb_S2x384x768_S1x384x768_0_0_0) :=
  congrArg (fun X => View.ld X (Rect.unit (s := S2x384x768) ![0, 0, 0] ![1, 384, 768] inb_S2x384x768_S1x384x768_0_0_0)) (scr0_read v v.junk (u.read (Elt F) f))

/-- A load of half 1 of scratch 0 right after it is filled reads that half of `scr0`. -/
theorem scr0_cov1 {κ κ' : Kind} {sp sp' : Space} (v : View sig κ sp S2x384x768 .bf16) (u : View sig κ' sp' S384x2x768 .bf16) (f : u.ty.Contents (Elt F)) :
    v.readCov
      [⟨(Rect.unit (s := S2x384x768) ![1, 0, 0] ![1, 384, 768] inb_S2x384x768_S1x384x768_1_0_0), k0_pay3 (u.readAt (Elt F) (Rect.unit (s := S384x2x768) ![0, 1, 0] ![384, 1, 768] inb_S384x2x768_S384x1x768_0_1_0).toLoadRect f)⟩,
       ⟨(Rect.unit (s := S2x384x768) ![0, 0, 0] ![1, 384, 768] inb_S2x384x768_S1x384x768_0_0_0), k0_pay2 (u.readAt (Elt F) (Rect.unit (s := S384x2x768) ![0, 0, 0] ![384, 1, 768] inb_S384x2x768_S384x1x768_0_0_0).toLoadRect f)⟩] (Rect.unit (s := S2x384x768) ![1, 0, 0] ![1, 384, 768] inb_S2x384x768_S1x384x768_1_0_0).toLoadRect
      = View.ld (scr0 (u.read (Elt F) f)) (Rect.unit (s := S2x384x768) ![1, 0, 0] ![1, 384, 768] inb_S2x384x768_S1x384x768_1_0_0) :=
  congrArg (fun X => View.ld X (Rect.unit (s := S2x384x768) ![1, 0, 0] ![1, 384, 768] inb_S2x384x768_S1x384x768_1_0_0)) (scr0_read v v.junk (u.read (Elt F) f))

/-- A load of half 0 of scratch 1 right after it is filled reads that half of `scr1`. -/
theorem scr1_cov0 {κ κ' : Kind} {sp sp' : Space} (v : View sig κ sp S2x384x768 .bf16) (u : View sig κ' sp' S384x2x768 .bf16) (f : u.ty.Contents (Elt F)) :
    v.readCov
      [⟨(Rect.unit (s := S2x384x768) ![1, 0, 0] ![1, 384, 768] inb_S2x384x768_S1x384x768_1_0_0), k0_pay5 (u.readAt (Elt F) (Rect.unit (s := S384x2x768) ![0, 1, 0] ![384, 1, 768] inb_S384x2x768_S384x1x768_0_1_0).toLoadRect f)⟩,
       ⟨(Rect.unit (s := S2x384x768) ![0, 0, 0] ![1, 384, 768] inb_S2x384x768_S1x384x768_0_0_0), k0_pay4 (u.readAt (Elt F) (Rect.unit (s := S384x2x768) ![0, 0, 0] ![384, 1, 768] inb_S384x2x768_S384x1x768_0_0_0).toLoadRect f)⟩] (Rect.unit (s := S2x384x768) ![0, 0, 0] ![1, 384, 768] inb_S2x384x768_S1x384x768_0_0_0).toLoadRect
      = View.ld (scr1 (u.read (Elt F) f)) (Rect.unit (s := S2x384x768) ![0, 0, 0] ![1, 384, 768] inb_S2x384x768_S1x384x768_0_0_0) :=
  congrArg (fun X => View.ld X (Rect.unit (s := S2x384x768) ![0, 0, 0] ![1, 384, 768] inb_S2x384x768_S1x384x768_0_0_0)) (scr1_read v v.junk (u.read (Elt F) f))

/-- A load of half 1 of scratch 1 right after it is filled reads that half of `scr1`. -/
theorem scr1_cov1 {κ κ' : Kind} {sp sp' : Space} (v : View sig κ sp S2x384x768 .bf16) (u : View sig κ' sp' S384x2x768 .bf16) (f : u.ty.Contents (Elt F)) :
    v.readCov
      [⟨(Rect.unit (s := S2x384x768) ![1, 0, 0] ![1, 384, 768] inb_S2x384x768_S1x384x768_1_0_0), k0_pay5 (u.readAt (Elt F) (Rect.unit (s := S384x2x768) ![0, 1, 0] ![384, 1, 768] inb_S384x2x768_S384x1x768_0_1_0).toLoadRect f)⟩,
       ⟨(Rect.unit (s := S2x384x768) ![0, 0, 0] ![1, 384, 768] inb_S2x384x768_S1x384x768_0_0_0), k0_pay4 (u.readAt (Elt F) (Rect.unit (s := S384x2x768) ![0, 0, 0] ![384, 1, 768] inb_S384x2x768_S384x1x768_0_0_0).toLoadRect f)⟩] (Rect.unit (s := S2x384x768) ![1, 0, 0] ![1, 384, 768] inb_S2x384x768_S1x384x768_1_0_0).toLoadRect
      = View.ld (scr1 (u.read (Elt F) f)) (Rect.unit (s := S2x384x768) ![1, 0, 0] ![1, 384, 768] inb_S2x384x768_S1x384x768_1_0_0) :=
  congrArg (fun X => View.ld X (Rect.unit (s := S2x384x768) ![1, 0, 0] ![1, 384, 768] inb_S2x384x768_S1x384x768_1_0_0)) (scr1_read v v.junk (u.read (Elt F) f))

end Cert.TransitionIdeal.Hand

end
-- ==== Proof.TransVal.lean ====
/- The blocks that the `transition` call leaves are those of its reference. -/
module

public import proofs.«01_k».proof.Proof.Gen.TransitionIdeal.Skeleton
public import proofs.«01_k».proof.Proof.Gen.TransitionRefIdeal.Skeleton
public import proofs.«01_k».proof.Proof.IdealFacts
public import proofs.«01_k».proof.Proof.TransPure
public import proofs.«01_k».proof.Proof.TransitionKit
public import Idealize.ShloMosaic.Lib.Pipeline.ValueKit

@[expose] public section

set_option maxRecDepth 16384

noncomputable section

namespace Cert.Hand.T

open Idealize.ShloMosaic Cert Cert.Hand

variable (b : Fin 3)

/-- The blocks of the kernel's windows at one grid point hold batch entry `b` of the reference's arguments. -/
structure Agree (x0 : Vec Ideal TransitionIdeal.S1x16x48x640 .f32) (x1 : Vec Ideal TransitionIdeal.S1x640x768 .bf16) (x2 : Vec Ideal TransitionIdeal.S1x640x384 .bf16) (x3 : Vec Ideal TransitionIdeal.S1x384 .f32) (x4 : Vec Ideal TransitionIdeal.S384x2x768 .bf16) (x5 : Vec Ideal TransitionIdeal.S2x768 .f32) (x6 : Vec Ideal TransitionIdeal.S384x2x768 .bf16) (x7 : Vec Ideal TransitionIdeal.S1x768 .f32) (x8 : Vec Ideal TransitionIdeal.S16x48x768 .fp8e4m3) (x9 : Vec Ideal TransitionIdeal.S1x768 .f32) (x10 : Vec Ideal TransitionIdeal.S2x768x1536 .fp8e4m3) (x11 : Vec Ideal TransitionIdeal.S2x1536 .f32) (x12 : Vec Ideal TransitionIdeal.S1536x768 .fp8e4m3) (x13 : Vec Ideal TransitionIdeal.S1x768 .f32)
    (X0 : Vec Ideal TransitionRefIdeal.S3x16x48x640 .f32) (X1 : Vec Ideal TransitionRefIdeal.S3x640x768 .bf16) (X2 : Vec Ideal TransitionRefIdeal.S3x640x384 .bf16) (X3 : Vec Ideal TransitionRefIdeal.S384 .f32) (X4 : Vec Ideal TransitionRefIdeal.S384x2x768 .bf16) (X5 : Vec Ideal TransitionRefIdeal.S2x768 .f32) (X6 : Vec Ideal TransitionRefIdeal.S384x2x768 .bf16) (X7 : Vec Ideal TransitionRefIdeal.S768 .f32) (X8 : Vec Ideal TransitionRefIdeal.S16x48x768 .fp8e4m3) (X9 : Vec Ideal TransitionRefIdeal.S768 .f32) (X10 : Vec Ideal TransitionRefIdeal.S768x2x1536 .fp8e4m3) (X11 : Vec Ideal TransitionRefIdeal.S2x1536 .f32) (X12 : Vec Ideal TransitionRefIdeal.S1536x768 .fp8e4m3) (X13 : Vec Ideal TransitionRefIdeal.S768 .f32) : Prop where
  h0 : ∀ (e : Fin 16) (d : Fin 48) (n : Fin 640), x0 (ix4 0 e d n) = X0 (ix4 b e d n)
  h1 : ∀ (n : Fin 640) (l : Fin 768), x1 (ix3 0 n l) = X1 (ix3 b n l)
  h2 : ∀ (n : Fin 640) (l : Fin 384), x2 (ix3 0 n l) = X2 (ix3 b n l)
  h3 : ∀ (l : Fin 384), x3 (ix2 0 l) = X3 (ix1 l)
  h4 : ∀ (x : Fin 384) (h : Fin 2) (l : Fin 768), x4 (ix3 x h l) = X4 (ix3 x h l)
  h5 : ∀ (h : Fin 2) (l : Fin 768), x5 (ix2 h l) = X5 (ix2 h l)
  h6 : ∀ (x : Fin 384) (h : Fin 2) (l : Fin 768), x6 (ix3 x h l) = X6 (ix3 x h l)
  h7 : ∀ (l : Fin 768), x7 (ix2 0 l) = X7 (ix1 l)
  h8 : ∀ (e : Fin 16) (d : Fin 48) (l : Fin 768), x8 (ix3 e d l) = X8 (ix3 e d l)
  h9 : ∀ (l : Fin 768), x9 (ix2 0 l) = X9 (ix1 l)
  h10 : ∀ (h : Fin 2) (x : Fin 768) (k : Fin 1536), x10 (ix3 h x k) = X10 (ix3 x h k)
  h11 : ∀ (h : Fin 2) (k : Fin 1536), x11 (ix2 h k) = X11 (ix2 h k)
  h12 : ∀ (k : Fin 1536) (l : Fin 768), x12 (ix2 k l) = X12 (ix2 k l)
  h13 : ∀ (l : Fin 768), x13 (ix2 0 l) = X13 (ix1 l)

/-- The reference's residual stream. -/
def rAM (X0 : Vec Ideal TransitionRefIdeal.S3x16x48x640 .f32) (X1 : Vec Ideal TransitionRefIdeal.S3x640x768 .bf16) (X2 : Vec Ideal TransitionRefIdeal.S3x640x384 .bf16) (X3 : Vec Ideal TransitionRefIdeal.S384 .f32) (X4 : Vec Ideal TransitionRefIdeal.S384x2x768 .bf16) (X5 : Vec Ideal TransitionRefIdeal.S2x768 .f32) (X6 : Vec Ideal TransitionRefIdeal.S384x2x768 .bf16) (X7 : Vec Ideal TransitionRefIdeal.S768 .f32) (X8 : Vec Ideal TransitionRefIdeal.S16x48x768 .fp8e4m3) (X9 : Vec Ideal TransitionRefIdeal.S768 .f32) (X10 : Vec Ideal TransitionRefIdeal.S768x2x1536 .fp8e4m3) (X11 : Vec Ideal TransitionRefIdeal.S2x1536 .f32) (X12 : Vec Ideal TransitionRefIdeal.S1536x768 .fp8e4m3) (X13 : Vec Ideal TransitionRefIdeal.S768 .f32) : Vec Ideal TransitionRefIdeal.S3x640x768 .f32 := (TransitionRefIdeal.Gen.k0_pay9 (F := Ideal) (TransitionRefIdeal.Gen.k0_pay1 (F := Ideal) X1) (TransitionRefIdeal.Gen.k0_pay6 (F := Ideal) X0 X8 X9) (TransitionRefIdeal.Gen.k0_pay7 (F := Ideal) X2 X4) X5)

/-- Its layer norm of the residual stream. -/
def rLN (X0 : Vec Ideal TransitionRefIdeal.S3x16x48x640 .f32) (X1 : Vec Ideal TransitionRefIdeal.S3x640x768 .bf16) (X2 : Vec Ideal TransitionRefIdeal.S3x640x384 .bf16) (X3 : Vec Ideal TransitionRefIdeal.S384 .f32) (X4 : Vec Ideal TransitionRefIdeal.S384x2x768 .bf16) (X5 : Vec Ideal TransitionRefIdeal.S2x768 .f32) (X6 : Vec Ideal TransitionRefIdeal.S384x2x768 .bf16) (X7 : Vec Ideal TransitionRefIdeal.S768 .f32) (X8 : Vec Ideal TransitionRefIdeal.S16x48x768 .fp8e4m3) (X9 : Vec Ideal TransitionRefIdeal.S768 .f32) (X10 : Vec Ideal TransitionRefIdeal.S768x2x1536 .fp8e4m3) (X11 : Vec Ideal TransitionRefIdeal.S2x1536 .f32) (X12 : Vec Ideal TransitionRefIdeal.S1536x768 .fp8e4m3) (X13 : Vec Ideal TransitionRefIdeal.S768 .f32) : Vec Ideal TransitionRefIdeal.S3x640x768 .f32 := TransitionRefIdeal.Gen.k0_pay11 (F := Ideal) (TransitionRefIdeal.Gen.k0_pay1 (F := Ideal) X1) (TransitionRefIdeal.Gen.k0_pay6 (F := Ideal) X0 X8 X9) (TransitionRefIdeal.Gen.k0_pay7 (F := Ideal) X2 X4) X5

/-- Its activated gate half of the hidden layer. -/
def rG (X0 : Vec Ideal TransitionRefIdeal.S3x16x48x640 .f32) (X1 : Vec Ideal TransitionRefIdeal.S3x640x768 .bf16) (X2 : Vec Ideal TransitionRefIdeal.S3x640x384 .bf16) (X3 : Vec Ideal TransitionRefIdeal.S384 .f32) (X4 : Vec Ideal TransitionRefIdeal.S384x2x768 .bf16) (X5 : Vec Ideal TransitionRefIdeal.S2x768 .f32) (X6 : Vec Ideal TransitionRefIdeal.S384x2x768 .bf16) (X7 : Vec Ideal TransitionRefIdeal.S768 .f32) (X8 : Vec Ideal TransitionRefIdeal.S16x48x768 .fp8e4m3) (X9 : Vec Ideal TransitionRefIdeal.S768 .f32) (X10 : Vec Ideal TransitionRefIdeal.S768x2x1536 .fp8e4m3) (X11 : Vec Ideal TransitionRefIdeal.S2x1536 .f32) (X12 : Vec Ideal TransitionRefIdeal.S1536x768 .fp8e4m3) (X13 : Vec Ideal TransitionRefIdeal.S768 .f32) : Vec Ideal TransitionRefIdeal.S3x640x1536 .f32 := TransitionRefIdeal.Gen.k0_pay17 (F := Ideal) (TransitionRefIdeal.Gen.k0_pay10 (F := Ideal) X2) (rLN X0 X1 X2 X3 X4 X5 X6 X7 X8 X9 X10 X11 X12 X13) X3 X6 X7 X10 X11

/-- Its up half of the hidden layer. -/
def rU (X0 : Vec Ideal TransitionRefIdeal.S3x16x48x640 .f32) (X1 : Vec Ideal TransitionRefIdeal.S3x640x768 .bf16) (X2 : Vec Ideal TransitionRefIdeal.S3x640x384 .bf16) (X3 : Vec Ideal TransitionRefIdeal.S384 .f32) (X4 : Vec Ideal TransitionRefIdeal.S384x2x768 .bf16) (X5 : Vec Ideal TransitionRefIdeal.S2x768 .f32) (X6 : Vec Ideal TransitionRefIdeal.S384x2x768 .bf16) (X7 : Vec Ideal TransitionRefIdeal.S768 .f32) (X8 : Vec Ideal TransitionRefIdeal.S16x48x768 .fp8e4m3) (X9 : Vec Ideal TransitionRefIdeal.S768 .f32) (X10 : Vec Ideal TransitionRefIdeal.S768x2x1536 .fp8e4m3) (X11 : Vec Ideal TransitionRefIdeal.S2x1536 .f32) (X12 : Vec Ideal TransitionRefIdeal.S1536x768 .fp8e4m3) (X13 : Vec Ideal TransitionRefIdeal.S768 .f32) : Vec Ideal TransitionRefIdeal.S3x640x1536 .f32 := TransitionRefIdeal.Gen.k0_pay18 (F := Ideal) (TransitionRefIdeal.Gen.k0_pay10 (F := Ideal) X2) (rLN X0 X1 X2 X3 X4 X5 X6 X7 X8 X9 X10 X11 X12 X13) X3 X6 X7 X10 X11

/-- Its `y`. -/
def r14 (X0 : Vec Ideal TransitionRefIdeal.S3x16x48x640 .f32) (X1 : Vec Ideal TransitionRefIdeal.S3x640x768 .bf16) (X2 : Vec Ideal TransitionRefIdeal.S3x640x384 .bf16) (X3 : Vec Ideal TransitionRefIdeal.S384 .f32) (X4 : Vec Ideal TransitionRefIdeal.S384x2x768 .bf16) (X5 : Vec Ideal TransitionRefIdeal.S2x768 .f32) (X6 : Vec Ideal TransitionRefIdeal.S384x2x768 .bf16) (X7 : Vec Ideal TransitionRefIdeal.S768 .f32) (X8 : Vec Ideal TransitionRefIdeal.S16x48x768 .fp8e4m3) (X9 : Vec Ideal TransitionRefIdeal.S768 .f32) (X10 : Vec Ideal TransitionRefIdeal.S768x2x1536 .fp8e4m3) (X11 : Vec Ideal TransitionRefIdeal.S2x1536 .f32) (X12 : Vec Ideal TransitionRefIdeal.S1536x768 .fp8e4m3) (X13 : Vec Ideal TransitionRefIdeal.S768 .f32) : Vec Ideal TransitionRefIdeal.S3x640x768 .bf16 := TransitionRefIdeal.Gen.k0_pay23 (F := Ideal) (TransitionRefIdeal.Gen.k0_pay8 (F := Ideal) (TransitionRefIdeal.Gen.k0_pay7 (F := Ideal) X2 X4) X5) (rAM X0 X1 X2 X3 X4 X5 X6 X7 X8 X9 X10 X11 X12 X13) (rG X0 X1 X2 X3 X4 X5 X6 X7 X8 X9 X10 X11 X12 X13) (rU X0 X1 X2 X3 X4 X5 X6 X7 X8 X9 X10 X11 X12 X13) X12 X13

/-- Its codes of `o * g`. -/
def r16 (X0 : Vec Ideal TransitionRefIdeal.S3x16x48x640 .f32) (X1 : Vec Ideal TransitionRefIdeal.S3x640x768 .bf16) (X2 : Vec Ideal TransitionRefIdeal.S3x640x384 .bf16) (X3 : Vec Ideal TransitionRefIdeal.S384 .f32) (X4 : Vec Ideal TransitionRefIdeal.S384x2x768 .bf16) (X5 : Vec Ideal TransitionRefIdeal.S2x768 .f32) (X6 : Vec Ideal TransitionRefIdeal.S384x2x768 .bf16) (X7 : Vec Ideal TransitionRefIdeal.S768 .f32) (X8 : Vec Ideal TransitionRefIdeal.S16x48x768 .fp8e4m3) (X9 : Vec Ideal TransitionRefIdeal.S768 .f32) (X10 : Vec Ideal TransitionRefIdeal.S768x2x1536 .fp8e4m3) (X11 : Vec Ideal TransitionRefIdeal.S2x1536 .f32) (X12 : Vec Ideal TransitionRefIdeal.S1536x768 .fp8e4m3) (X13 : Vec Ideal TransitionRefIdeal.S768 .f32) : Vec Ideal TransitionRefIdeal.S3x16x48x640 .fp8e4m3 := TransitionRefIdeal.Gen.k0_pay24 (F := Ideal) (TransitionRefIdeal.Gen.k0_pay4 (F := Ideal) X0)

/-- Its scales of `o * g`. -/
def r17 (X0 : Vec Ideal TransitionRefIdeal.S3x16x48x640 .f32) (X1 : Vec Ideal TransitionRefIdeal.S3x640x768 .bf16) (X2 : Vec Ideal TransitionRefIdeal.S3x640x384 .bf16) (X3 : Vec Ideal TransitionRefIdeal.S384 .f32) (X4 : Vec Ideal TransitionRefIdeal.S384x2x768 .bf16) (X5 : Vec Ideal TransitionRefIdeal.S2x768 .f32) (X6 : Vec Ideal TransitionRefIdeal.S384x2x768 .bf16) (X7 : Vec Ideal TransitionRefIdeal.S768 .f32) (X8 : Vec Ideal TransitionRefIdeal.S16x48x768 .fp8e4m3) (X9 : Vec Ideal TransitionRefIdeal.S768 .f32) (X10 : Vec Ideal TransitionRefIdeal.S768x2x1536 .fp8e4m3) (X11 : Vec Ideal TransitionRefIdeal.S2x1536 .f32) (X12 : Vec Ideal TransitionRefIdeal.S1536x768 .fp8e4m3) (X13 : Vec Ideal TransitionRefIdeal.S768 .f32) : Vec Ideal TransitionRefIdeal.S3x640 .f32 := TransitionRefIdeal.Gen.k0_pay5 (F := Ideal) X0

/-- Its codes of the second layer norm. -/
def r18 (X0 : Vec Ideal TransitionRefIdeal.S3x16x48x640 .f32) (X1 : Vec Ideal TransitionRefIdeal.S3x640x768 .bf16) (X2 : Vec Ideal TransitionRefIdeal.S3x640x384 .bf16) (X3 : Vec Ideal TransitionRefIdeal.S384 .f32) (X4 : Vec Ideal TransitionRefIdeal.S384x2x768 .bf16) (X5 : Vec Ideal TransitionRefIdeal.S2x768 .f32) (X6 : Vec Ideal TransitionRefIdeal.S384x2x768 .bf16) (X7 : Vec Ideal TransitionRefIdeal.S768 .f32) (X8 : Vec Ideal TransitionRefIdeal.S16x48x768 .fp8e4m3) (X9 : Vec Ideal TransitionRefIdeal.S768 .f32) (X10 : Vec Ideal TransitionRefIdeal.S768x2x1536 .fp8e4m3) (X11 : Vec Ideal TransitionRefIdeal.S2x1536 .f32) (X12 : Vec Ideal TransitionRefIdeal.S1536x768 .fp8e4m3) (X13 : Vec Ideal TransitionRefIdeal.S768 .f32) : Vec Ideal TransitionRefIdeal.S3x640x768 .fp8e4m3 := TransitionRefIdeal.Gen.k0_pay14 (F := Ideal) (TransitionRefIdeal.Gen.k0_pay10 (F := Ideal) X2) (rLN X0 X1 X2 X3 X4 X5 X6 X7 X8 X9 X10 X11 X12 X13) X3 X6 X7

/-- Its scales of the second layer norm. -/
def r19 (X0 : Vec Ideal TransitionRefIdeal.S3x16x48x640 .f32) (X1 : Vec Ideal TransitionRefIdeal.S3x640x768 .bf16) (X2 : Vec Ideal TransitionRefIdeal.S3x640x384 .bf16) (X3 : Vec Ideal TransitionRefIdeal.S384 .f32) (X4 : Vec Ideal TransitionRefIdeal.S384x2x768 .bf16) (X5 : Vec Ideal TransitionRefIdeal.S2x768 .f32) (X6 : Vec Ideal TransitionRefIdeal.S384x2x768 .bf16) (X7 : Vec Ideal TransitionRefIdeal.S768 .f32) (X8 : Vec Ideal TransitionRefIdeal.S16x48x768 .fp8e4m3) (X9 : Vec Ideal TransitionRefIdeal.S768 .f32) (X10 : Vec Ideal TransitionRefIdeal.S768x2x1536 .fp8e4m3) (X11 : Vec Ideal TransitionRefIdeal.S2x1536 .f32) (X12 : Vec Ideal TransitionRefIdeal.S1536x768 .fp8e4m3) (X13 : Vec Ideal TransitionRefIdeal.S768 .f32) : Vec Ideal TransitionRefIdeal.S3x640 .f32 := TransitionRefIdeal.Gen.k0_pay15 (F := Ideal) (TransitionRefIdeal.Gen.k0_pay10 (F := Ideal) X2) (rLN X0 X1 X2 X3 X4 X5 X6 X7 X8 X9 X10 X11 X12 X13) X3 X6 X7

/-- Its codes of the hidden layer. -/
def r20 (X0 : Vec Ideal TransitionRefIdeal.S3x16x48x640 .f32) (X1 : Vec Ideal TransitionRefIdeal.S3x640x768 .bf16) (X2 : Vec Ideal TransitionRefIdeal.S3x640x384 .bf16) (X3 : Vec Ideal TransitionRefIdeal.S384 .f32) (X4 : Vec Ideal TransitionRefIdeal.S384x2x768 .bf16) (X5 : Vec Ideal TransitionRefIdeal.S2x768 .f32) (X6 : Vec Ideal TransitionRefIdeal.S384x2x768 .bf16) (X7 : Vec Ideal TransitionRefIdeal.S768 .f32) (X8 : Vec Ideal TransitionRefIdeal.S16x48x768 .fp8e4m3) (X9 : Vec Ideal TransitionRefIdeal.S768 .f32) (X10 : Vec Ideal TransitionRefIdeal.S768x2x1536 .fp8e4m3) (X11 : Vec Ideal TransitionRefIdeal.S2x1536 .f32) (X12 : Vec Ideal TransitionRefIdeal.S1536x768 .fp8e4m3) (X13 : Vec Ideal TransitionRefIdeal.S768 .f32) : Vec Ideal TransitionRefIdeal.S3x640x1536 .fp8e4m3 := TransitionRefIdeal.Gen.k0_pay21 (F := Ideal) (rG X0 X1 X2 X3 X4 X5 X6 X7 X8 X9 X10 X11 X12 X13) (rU X0 X1 X2 X3 X4 X5 X6 X7 X8 X9 X10 X11 X12 X13)

/-- Its scales of the hidden layer. -/
def r21 (X0 : Vec Ideal TransitionRefIdeal.S3x16x48x640 .f32) (X1 : Vec Ideal TransitionRefIdeal.S3x640x768 .bf16) (X2 : Vec Ideal TransitionRefIdeal.S3x640x384 .bf16) (X3 : Vec Ideal TransitionRefIdeal.S384 .f32) (X4 : Vec Ideal TransitionRefIdeal.S384x2x768 .bf16) (X5 : Vec Ideal TransitionRefIdeal.S2x768 .f32) (X6 : Vec Ideal TransitionRefIdeal.S384x2x768 .bf16) (X7 : Vec Ideal TransitionRefIdeal.S768 .f32) (X8 : Vec Ideal TransitionRefIdeal.S16x48x768 .fp8e4m3) (X9 : Vec Ideal TransitionRefIdeal.S768 .f32) (X10 : Vec Ideal TransitionRefIdeal.S768x2x1536 .fp8e4m3) (X11 : Vec Ideal TransitionRefIdeal.S2x1536 .f32) (X12 : Vec Ideal TransitionRefIdeal.S1536x768 .fp8e4m3) (X13 : Vec Ideal TransitionRefIdeal.S768 .f32) : Vec Ideal TransitionRefIdeal.S3x640 .f32 := TransitionRefIdeal.Gen.k0_pay22 (F := Ideal) (rG X0 X1 X2 X3 X4 X5 X6 X7 X8 X9 X10 X11 X12 X13) (rU X0 X1 X2 X3 X4 X5 X6 X7 X8 X9 X10 X11 X12 X13)

section

variable {x0 : Vec Ideal TransitionIdeal.S1x16x48x640 .f32} {x1 : Vec Ideal TransitionIdeal.S1x640x768 .bf16} {x2 : Vec Ideal TransitionIdeal.S1x640x384 .bf16} {x3 : Vec Ideal TransitionIdeal.S1x384 .f32} {x4 : Vec Ideal TransitionIdeal.S384x2x768 .bf16} {x5 : Vec Ideal TransitionIdeal.S2x768 .f32} {x6 : Vec Ideal TransitionIdeal.S384x2x768 .bf16} {x7 : Vec Ideal TransitionIdeal.S1x768 .f32} {x8 : Vec Ideal TransitionIdeal.S16x48x768 .fp8e4m3} {x9 : Vec Ideal TransitionIdeal.S1x768 .f32} {x10 : Vec Ideal TransitionIdeal.S2x768x1536 .fp8e4m3} {x11 : Vec Ideal TransitionIdeal.S2x1536 .f32} {x12 : Vec Ideal TransitionIdeal.S1536x768 .fp8e4m3} {x13 : Vec Ideal TransitionIdeal.S1x768 .f32}
  {X0 : Vec Ideal TransitionRefIdeal.S3x16x48x640 .f32} {X1 : Vec Ideal TransitionRefIdeal.S3x640x768 .bf16} {X2 : Vec Ideal TransitionRefIdeal.S3x640x384 .bf16} {X3 : Vec Ideal TransitionRefIdeal.S384 .f32} {X4 : Vec Ideal TransitionRefIdeal.S384x2x768 .bf16} {X5 : Vec Ideal TransitionRefIdeal.S2x768 .f32} {X6 : Vec Ideal TransitionRefIdeal.S384x2x768 .bf16} {X7 : Vec Ideal TransitionRefIdeal.S768 .f32} {X8 : Vec Ideal TransitionRefIdeal.S16x48x768 .fp8e4m3} {X9 : Vec Ideal TransitionRefIdeal.S768 .f32} {X10 : Vec Ideal TransitionRefIdeal.S768x2x1536 .fp8e4m3} {X11 : Vec Ideal TransitionRefIdeal.S2x1536 .f32} {X12 : Vec Ideal TransitionRefIdeal.S1536x768 .fp8e4m3} {X13 : Vec Ideal TransitionRefIdeal.S768 .f32}
  (h : Agree b x0 x1 x2 x3 x4 x5 x6 x7 x8 x9 x10 x11 x12 x13 X0 X1 X2 X3 X4 X5 X6 X7 X8 X9 X10 X11 X12 X13)

include h

/-- The residual streams agree. -/
theorem am_at (n : Fin 640) (l : Fin 768) : TransitionIdeal.Hand.am x0 x1 x2 x5 x8 x9 (TransitionIdeal.Hand.scr0 x4) (ix2 n l) = rAM X0 X1 X2 X3 X4 X5 X6 X7 X8 X9 X10 X11 X12 X13 (ix3 b n l) := by
  unfold TransitionIdeal.Hand.am rAM
  exact am_eq b _ _ _ _ _ _ _ _ _ _ _ _ _ _ (fun e d n => (View.ld_unit_apply_of _ _ _ _ _ (ix4 0 e d n) (by intro a; fin_cases a <;> simp)).trans (h.h0 e d n)) (fun n l => (View.ld_unit_apply_of _ _ _ _ _ (ix3 0 n l) (by intro a; fin_cases a <;> simp)).trans (h.h1 n l)) (fun n l => (View.ld_unit_apply_of _ _ _ _ _ (ix3 0 n l) (by intro a; fin_cases a <;> simp)).trans (h.h2 n l)) (fun x l => (View.ld_unit_apply_of _ _ _ _ _ (ix3 0 x l) (by intro a; fin_cases a <;> simp)).trans (h.h4 x 0 l)) (fun l => (View.ld_unit_apply_of _ _ _ _ _ (ix2 0 l) (by intro a; fin_cases a <;> simp)).trans (h.h5 0 l)) (fun e d l => (View.ld_unit_apply_of _ _ _ _ _ (ix3 e d l) (by intro a; fin_cases a <;> simp)).trans (h.h8 e d l)) (fun l => (View.ld_unit_apply_of _ _ _ _ _ (ix2 0 l) (by intro a; fin_cases a <;> simp)).trans (h.h9 l)) n l

/-- The modulated layer norms agree. -/
theorem x2_at (n : Fin 640) (l : Fin 768) : TransitionIdeal.Hand.x2v x0 x1 x2 x3 x5 x7 x8 x9 (TransitionIdeal.Hand.scr0 x4) (TransitionIdeal.Hand.scr1 x6) (ix2 n l) = TransitionRefIdeal.Gen.k0_pay12 (F := Ideal) (TransitionRefIdeal.Gen.k0_pay10 (F := Ideal) X2) (rLN X0 X1 X2 X3 X4 X5 X6 X7 X8 X9 X10 X11 X12 X13) X3 X6 X7 (ix3 b n l) := by
  unfold TransitionIdeal.Hand.x2v rLN
  exact x2_eq b _ _ _ _ _ _ _ _ _ _ _ _ _ _ (am_at b h) (fun n l => (View.ld_unit_apply_of _ _ _ _ _ (ix3 0 n l) (by intro a; fin_cases a <;> simp)).trans (h.h2 n l)) (fun l => (View.ld_unit_apply_of _ _ _ _ _ (ix2 0 l) (by intro a; fin_cases a <;> simp)).trans (h.h3 l)) (fun x l => (View.ld_unit_apply_of _ _ _ _ _ (ix3 0 x l) (by intro a; fin_cases a <;> simp)).trans (h.h6 x 0 l)) (fun x l => (View.ld_unit_apply_of _ _ _ _ _ (ix3 1 x l) (by intro a; fin_cases a <;> simp)).trans (h.h6 x 1 l)) (fun l => (View.ld_unit_apply_of _ _ _ _ _ (ix2 0 l) (by intro a; fin_cases a <;> simp)).trans (h.h7 l)) n l

/-- The kernel's largest absolute value per row of the second layer norm. -/
theorem x2m_at (n : Fin 640) : TransitionIdeal.Hand.x2m x0 x1 x2 x3 x5 x7 x8 x9 (TransitionIdeal.Hand.scr0 x4) (TransitionIdeal.Hand.scr1 x6) (ix2 n 0) =
    Finset.univ.fold max (Ideal.ofBits .f32 0xFF800000#32) fun l : Fin 768 => (FloatOps.absf (TransitionIdeal.Hand.x2v x0 x1 x2 x3 x5 x7 x8 x9 (TransitionIdeal.Hand.scr0 x4) (TransitionIdeal.Hand.scr1 x6) (ix2 n l)) : Ideal .f32) := by
  unfold TransitionIdeal.Hand.x2m TransitionIdeal.Hand.x2v
  exact x2max _ _ _ _ _ _ _ _ n

/-- The scales of the second layer norm agree. -/
theorem x2s_at (n : Fin 640) : TransitionIdeal.Gen.k0_pay18 (F := Ideal) (TransitionIdeal.Hand.x2m x0 x1 x2 x3 x5 x7 x8 x9 (TransitionIdeal.Hand.scr0 x4) (TransitionIdeal.Hand.scr1 x6)) (ix2 n 0) = TransitionRefIdeal.Gen.k0_pay13 (F := Ideal) (TransitionRefIdeal.Gen.k0_pay10 (F := Ideal) X2) (rLN X0 X1 X2 X3 X4 X5 X6 X7 X8 X9 X10 X11 X12 X13) X3 X6 X7 (ix3 b n 0) :=
  x2s b (TransitionIdeal.Hand.x2v x0 x1 x2 x3 x5 x7 x8 x9 (TransitionIdeal.Hand.scr0 x4) (TransitionIdeal.Hand.scr1 x6)) _ _ _ _ _ _ (x2_at b h) (x2m_at b h) n

/-- The codes of the second layer norm agree. -/
theorem x2c_at (n : Fin 640) (l : Fin 768) : TransitionIdeal.Gen.k0_pay19 (F := Ideal) (TransitionIdeal.Hand.x2v x0 x1 x2 x3 x5 x7 x8 x9 (TransitionIdeal.Hand.scr0 x4) (TransitionIdeal.Hand.scr1 x6)) (TransitionIdeal.Hand.x2m x0 x1 x2 x3 x5 x7 x8 x9 (TransitionIdeal.Hand.scr0 x4) (TransitionIdeal.Hand.scr1 x6)) (ix2 n l) = TransitionRefIdeal.Gen.k0_pay14 (F := Ideal) (TransitionRefIdeal.Gen.k0_pay10 (F := Ideal) X2) (rLN X0 X1 X2 X3 X4 X5 X6 X7 X8 X9 X10 X11 X12 X13) X3 X6 X7 (ix3 b n l) :=
  x2c b _ _ _ _ _ _ _ (x2_at b h) (x2s_at b h) n l

/-- The gate halves agree through the activation. -/
theorem gate_at (n : Fin 640) (k : Fin 1536) : TransitionIdeal.Hand.gate x0 x1 x2 x3 x5 x7 x8 x9 x10 x11 (TransitionIdeal.Hand.scr0 x4) (TransitionIdeal.Hand.scr1 x6) (ix2 n k) * Ideal.logistic (TransitionIdeal.Hand.gate x0 x1 x2 x3 x5 x7 x8 x9 x10 x11 (TransitionIdeal.Hand.scr0 x4) (TransitionIdeal.Hand.scr1 x6) (ix2 n k)) = rG X0 X1 X2 X3 X4 X5 X6 X7 X8 X9 X10 X11 X12 X13 (ix3 b n k) := by
  unfold TransitionIdeal.Hand.gate rG
  exact gate_eq b _ _ _ _ _ _ _ _ _ _ _ (x2c_at b h) (x2s_at b h) (fun x k => (View.ld_unit_apply_of _ _ _ _ _ (ix3 0 x k) (by intro a; fin_cases a <;> simp)).trans (h.h10 0 x k)) (fun k => (View.ld_unit_apply_of _ _ _ _ _ (ix2 0 k) (by intro a; fin_cases a <;> simp)).trans (h.h11 0 k)) n k

/-- The hidden layers agree, and so do its scale and its codes. -/
theorem hid_at (P : Vec Ideal TransitionIdeal.S1x1536 .f32) (hP : ∀ k : Fin 1536, P (ix2 0 k) = X11 (ix2 1 k)) (n : Fin 640) (k : Fin 1536) :
    TransitionIdeal.Gen.k0_pay25 (F := Ideal) (TransitionIdeal.Hand.gate x0 x1 x2 x3 x5 x7 x8 x9 x10 x11 (TransitionIdeal.Hand.scr0 x4) (TransitionIdeal.Hand.scr1 x6)) (TransitionIdeal.Hand.up x0 x1 x2 x3 x5 x7 x8 x9 x10 x11 (TransitionIdeal.Hand.scr0 x4) (TransitionIdeal.Hand.scr1 x6)) (TransitionIdeal.Gen.k0_pay24 (F := Ideal) P) (ix2 n k) = TransitionRefIdeal.Gen.k0_pay19 (F := Ideal) (rG X0 X1 X2 X3 X4 X5 X6 X7 X8 X9 X10 X11 X12 X13) (rU X0 X1 X2 X3 X4 X5 X6 X7 X8 X9 X10 X11 X12 X13) (ix3 b n k) := by
  refine hid_kr b _ _ _ _ _ (gate_at b h) (fun n k => ?_) n k
  unfold TransitionIdeal.Hand.up rU
  exact up_eq b _ _ _ _ _ _ _ _ _ _ _ (x2c_at b h) (x2s_at b h) (fun x k => (View.ld_unit_apply_of _ _ _ _ _ (ix3 1 x k) (by intro a; fin_cases a <;> simp)).trans (h.h10 1 x k)) hP n k

/-- `y`. -/
theorem v14 (n : Fin 640) (l : Fin 768) : TransitionIdeal.Hand.o14 x0 x1 x2 x3 x5 x7 x8 x9 x10 x11 x12 x13 (TransitionIdeal.Hand.scr0 x4) (TransitionIdeal.Hand.scr1 x6) (ix3 0 n l) = r14 X0 X1 X2 X3 X4 X5 X6 X7 X8 X9 X10 X11 X12 X13 (ix3 b n l) := by
  unfold TransitionIdeal.Hand.o14 r14
  exact y_eq b _ _ _ _ _ _ _ _ _ _ _ _ _ _ _ _ _ (fun n l => (View.ld_unit_apply_of _ _ _ _ _ (ix3 0 n l) (by intro a; fin_cases a <;> simp)).trans (h.h2 n l)) (fun x l => (View.ld_unit_apply_of _ _ _ _ _ (ix3 1 x l) (by intro a; fin_cases a <;> simp)).trans (h.h4 x 1 l)) (fun l => (View.ld_unit_apply_of _ _ _ _ _ (ix2 1 l) (by intro a; fin_cases a <;> simp)).trans (h.h5 1 l)) (fun k l => (View.ld_unit_apply_of _ _ _ _ _ (ix2 k l) (by intro a; fin_cases a <;> simp)).trans (h.h12 k l)) (fun l => (View.ld_unit_apply_of _ _ _ _ _ (ix2 0 l) (by intro a; fin_cases a <;> simp)).trans (h.h13 l)) (am_at b h) (hid_at b h _ (fun k => (View.ld_unit_apply_of _ _ _ _ _ (ix2 1 k) (by intro a; fin_cases a <;> simp)).trans (h.h11 1 k))) n l

/-- `a_mid`. -/
theorem v15 (n : Fin 640) (l : Fin 768) : TransitionIdeal.Hand.o15 x0 x1 x2 x5 x8 x9 (TransitionIdeal.Hand.scr0 x4) (ix3 0 n l) = rAM X0 X1 X2 X3 X4 X5 X6 X7 X8 X9 X10 X11 X12 X13 (ix3 b n l) := by
  unfold TransitionIdeal.Hand.o15
  rw [am_o]
  exact am_at b h n l

/-- The codes of `o * g`. -/
theorem v16 (e : Fin 16) (d : Fin 48) (n : Fin 640) : TransitionIdeal.Hand.o16 x0 (ix4 0 e d n) = r16 X0 X1 X2 X3 X4 X5 X6 X7 X8 X9 X10 X11 X12 X13 (ix4 b e d n) := by
  unfold TransitionIdeal.Hand.o16 r16
  exact ogo b _ _ (fun e d n => (View.ld_unit_apply_of _ _ _ _ _ (ix4 0 e d n) (by intro a; fin_cases a <;> simp)).trans (h.h0 e d n)) e d n

/-- The scales of `o * g`. -/
theorem v17 (n : Fin 640) : TransitionIdeal.Hand.o17 x0 (ix2 0 n) = r17 X0 X1 X2 X3 X4 X5 X6 X7 X8 X9 X10 X11 X12 X13 (ix2 b n) := by
  unfold TransitionIdeal.Hand.o17 r17
  rw [ogs5]
  exact ogs3 b _ _ (fun e d n => (View.ld_unit_apply_of _ _ _ _ _ (ix4 0 e d n) (by intro a; fin_cases a <;> simp)).trans (h.h0 e d n)) n

/-- The codes of the second layer norm. -/
theorem v18 (n : Fin 640) (l : Fin 768) : TransitionIdeal.Hand.o18 x0 x1 x2 x3 x5 x7 x8 x9 (TransitionIdeal.Hand.scr0 x4) (TransitionIdeal.Hand.scr1 x6) (ix3 0 n l) = r18 X0 X1 X2 X3 X4 X5 X6 X7 X8 X9 X10 X11 X12 X13 (ix3 b n l) := by
  unfold TransitionIdeal.Hand.o18 r18
  rw [x2co]
  exact x2c_at b h n l

/-- The scales of the second layer norm. -/
theorem v19 (n : Fin 640) : TransitionIdeal.Hand.o19 x0 x1 x2 x3 x5 x7 x8 x9 (TransitionIdeal.Hand.scr0 x4) (TransitionIdeal.Hand.scr1 x6) (ix2 0 n) = r19 X0 X1 X2 X3 X4 X5 X6 X7 X8 X9 X10 X11 X12 X13 (ix2 b n) := by
  unfold TransitionIdeal.Hand.o19 r19
  rw [x2so, x2sr]
  exact x2s_at b h n

/-- The codes of the hidden layer. -/
theorem v20 (n : Fin 640) (k : Fin 1536) : TransitionIdeal.Hand.o20 x0 x1 x2 x3 x5 x7 x8 x9 x10 x11 (TransitionIdeal.Hand.scr0 x4) (TransitionIdeal.Hand.scr1 x6) (ix3 0 n k) = r20 X0 X1 X2 X3 X4 X5 X6 X7 X8 X9 X10 X11 X12 X13 (ix3 b n k) := by
  unfold TransitionIdeal.Hand.o20 r20
  rw [hidco]
  exact hidc b _ _ _ _ _ (hid_at b h _ (fun k => (View.ld_unit_apply_of _ _ _ _ _ (ix2 1 k) (by intro a; fin_cases a <;> simp)).trans (h.h11 1 k))) n k

/-- The scales of the hidden layer. -/
theorem v21 (n : Fin 640) : TransitionIdeal.Hand.o21 x0 x1 x2 x3 x5 x7 x8 x9 x10 x11 (TransitionIdeal.Hand.scr0 x4) (TransitionIdeal.Hand.scr1 x6) (ix2 0 n) = r21 X0 X1 X2 X3 X4 X5 X6 X7 X8 X9 X10 X11 X12 X13 (ix2 b n) := by
  unfold TransitionIdeal.Hand.o21 r21
  rw [hidso, hidsr]
  exact hids b _ _ _ _ _ (hid_at b h _ (fun k => (View.ld_unit_apply_of _ _ _ _ _ (ix2 1 k) (by intro a; fin_cases a <;> simp)).trans (h.h11 1 k))) n

end

end Cert.Hand.T

end

end
-- ==== Proof.TransitionRunA.lean ====
/- The `transition` body run at the first grid point. -/
module

public import proofs.«01_k».proof.Proof.TransitionKit

@[expose] public section

set_option maxRecDepth 16384

noncomputable section

namespace Cert.TransitionIdeal.Hand

open Cert.Hand Cert.TransitionIdeal Cert.TransitionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a grid point where the scratch is filled: from the input blocks at their contents it runs to the continuation holding the inputs as they
    were, each whole output block at its function of them, each per-row output with row `i 0` overwritten, and the scratch at its
    stated contents. -/
theorem kernelRun0_A (c : Dev nD) (i : grid0.Coords) (arg1 : Memref sig .tc .vmem S1x16x48x640 .f32) (harg1 : arg1.IsWhole) (arg2 : Memref sig .tc .vmem S1x640x768 .bf16) (harg2 : arg2.IsWhole) (arg3 : Memref sig .tc .vmem S1x640x384 .bf16) (harg3 : arg3.IsWhole) (arg4 : Memref sig .tc .vmem S1x384 .f32) (harg4 : arg4.IsWhole) (arg5 : Memref sig .tc .vmem S384x2x768 .bf16) (harg5 : arg5.IsWhole) (arg6 : Memref sig .tc .vmem S2x768 .f32) (harg6 : arg6.IsWhole) (arg7 : Memref sig .tc .vmem S384x2x768 .bf16) (harg7 : arg7.IsWhole) (arg8 : Memref sig .tc .vmem S1x768 .f32) (harg8 : arg8.IsWhole) (arg9 : Memref sig .tc .vmem S16x48x768 .fp8e4m3) (harg9 : arg9.IsWhole) (arg10 : Memref sig .tc .vmem S1x768 .f32) (harg10 : arg10.IsWhole) (arg11 : Memref sig .tc .vmem S2x768x1536 .fp8e4m3) (harg11 : arg11.IsWhole) (arg12 : Memref sig .tc .vmem S2x1536 .f32) (harg12 : arg12.IsWhole) (arg13 : Memref sig .tc .vmem S1536x768 .fp8e4m3) (harg13 : arg13.IsWhole) (arg14 : Memref sig .tc .vmem S1x768 .f32) (harg14 : arg14.IsWhole) (arg15 : Memref sig .tc .vmem S1x640x768 .bf16) (harg15 : arg15.IsWhole) (arg16 : Memref sig .tc .vmem S1x640x768 .f32) (harg16 : arg16.IsWhole) (arg17 : Memref sig .tc .vmem S1x16x48x640 .fp8e4m3) (harg17 : arg17.IsWhole) (arg18 : Memref sig .tc .vmem S3x640 .f32) (harg18 : arg18.IsWhole) (arg19 : Memref sig .tc .vmem S1x640x768 .fp8e4m3) (harg19 : arg19.IsWhole) (arg20 : Memref sig .tc .vmem S3x640 .f32) (harg20 : arg20.IsWhole) (arg21 : Memref sig .tc .vmem S1x640x1536 .fp8e4m3) (harg21 : arg21.IsWhole) (arg22 : Memref sig .tc .vmem S3x640 .f32) (harg22 : arg22.IsWhole) (arg23 : Memref sig .tc .vmem S2x384x768 .bf16) (harg23 : arg23.IsWhole) (arg24 : Memref sig .tc .vmem S2x384x768 .bf16) (harg24 : arg24.IsWhole) (hc0 : cond0_0 i)
    (x0 : Vec F S1x16x48x640 .f32) (x1 : Vec F S1x640x768 .bf16) (x2 : Vec F S1x640x384 .bf16) (x3 : Vec F S1x384 .f32) (x4 : Vec F S384x2x768 .bf16) (x5 : Vec F S2x768 .f32) (x6 : Vec F S384x2x768 .bf16) (x7 : Vec F S1x768 .f32) (x8 : Vec F S16x48x768 .fp8e4m3) (x9 : Vec F S1x768 .f32) (x10 : Vec F S2x768x1536 .fp8e4m3) (x11 : Vec F S2x1536 .f32) (x12 : Vec F S1536x768 .fp8e4m3) (x13 : Vec F S1x768 .f32)  (y17 : Vec F S3x640 .f32) (y19 : Vec F S3x640 .f32) (y21 : Vec F S3x640 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare y17 ∗ (∃ d, owns (c : Thread nD τ) arg19 fullShare d) ∗ owns (c : Thread nD τ) arg20 fullShare y19 ∗ (∃ d, owns (c : Thread nD τ) arg21 fullShare d) ∗ owns (c : Thread nD τ) arg22 fullShare y21 ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (o14 x0 x1 x2 x3 x5 x7 x8 x9 x10 x11 x12 x13 (scr0 x4) (scr1 x6)) ∗ owns (c : Thread nD τ) arg16 fullShare (o15 x0 x1 x2 x5 x8 x9 (scr0 x4)) ∗ owns (c : Thread nD τ) arg17 fullShare (o16 x0) ∗ (∃ d, ⌜RowPut (i 0).val (o17 x0) y17 d⌝ ∗ owns (c : Thread nD τ) arg18 fullShare d) ∗ owns (c : Thread nD τ) arg19 fullShare (o18 x0 x1 x2 x3 x5 x7 x8 x9 (scr0 x4) (scr1 x6)) ∗ (∃ d, ⌜RowPut (i 0).val (o19 x0 x1 x2 x3 x5 x7 x8 x9 (scr0 x4) (scr1 x6)) y19 d⌝ ∗ owns (c : Thread nD τ) arg20 fullShare d) ∗ owns (c : Thread nD τ) arg21 fullShare (o20 x0 x1 x2 x3 x5 x7 x8 x9 x10 x11 (scr0 x4) (scr1 x6)) ∗ (∃ d, ⌜RowPut (i 0).val (o21 x0 x1 x2 x3 x5 x7 x8 x9 x10 x11 (scr0 x4) (scr1 x6)) y21 d⌝ ∗ owns (c : Thread nD τ) arg22 fullShare d) ∗ owns (c : Thread nD τ) arg23 fullShare (scr0 x4) ∗ owns (c : Thread nD τ) arg24 fullShare (scr1 x6)) -∗ K ⟨⟩))
          ⊢ wp frame (wpE (defs₀ (F := F)) Variants.none c none) E (cc0_transition i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_transition_eq_skeleton]; unfold cc0_transition_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%f17, %hf17, H17⟩, ⟨%d18, %f18, -, H18⟩, ⟨%f19, %hf19, H19⟩, ⟨%d20, %f20, -, H20⟩, ⟨%f21, %hf21, H21⟩, ⟨%ds0, %fs0, -, HS0⟩, ⟨%ds1, %fs1, -, HS1⟩, Hk⟩
    subst hf0; subst hf1; subst hf2; subst hf3; subst hf4; subst hf5; subst hf6; subst hf7; subst hf8; subst hf9; subst hf10; subst hf11; subst hf12; subst hf13
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    isplitl [H13]
    · iexists _; isplitr; · ipureintro; rfl
      iexact H13
    isplitl [H14]
    · iexists _; isplitr; swap; · iexact H14
      ipureintro
      refine (View.read_writes_full _ _ _ _ _).trans ?_
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.cst_40 kernelRun0_A.sl.cst_97 kernelRun0_A.sl.v97 kernelRun0_A.sl.v187 kernelRun0_A.sl.v47 kernelRun0_A.sl.v106 kernelRun0_A.sl.HS0_2 kernelRun0_A.sl.HS1_2; simp only [scr0_cov0, scr0_cov1, scr1_cov0, scr1_cov1]; rfl
    isplitl [H15]
    · iexists _; isplitr; swap; · iexact H15
      ipureintro
      refine (View.read_writes_full _ _ _ _ _).trans ?_
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.cst_40 kernelRun0_A.sl.cst_97 kernelRun0_A.sl.v97 kernelRun0_A.sl.v187 kernelRun0_A.sl.v47 kernelRun0_A.sl.v106 kernelRun0_A.sl.HS0_2 kernelRun0_A.sl.HS1_2; simp only [scr0_cov0, scr0_cov1, scr1_cov0, scr1_cov1]; rfl
    isplitl [H16]
    · iexists _; isplitr; swap; · iexact H16
      ipureintro
      refine (View.read_writes_full _ _ _ _ _).trans ?_
      rfl
    isplitl [H17]
    · iexists _; isplitr; swap
      · iexists _; isplitr; swap; · iexact H17
        ipureintro; rfl
      ipureintro
      refine RowPut.of_writes _ _ _ _ _ (koff i) hf17 ?_
      rfl
    isplitl [H18]
    · iexists _; isplitr; swap; · iexact H18
      ipureintro
      refine (View.read_writes_full _ _ _ _ _).trans ?_
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.cst_40 kernelRun0_A.sl.cst_97 kernelRun0_A.sl.v97 kernelRun0_A.sl.v187 kernelRun0_A.sl.v47 kernelRun0_A.sl.v106 kernelRun0_A.sl.HS0_2 kernelRun0_A.sl.HS1_2; simp only [scr0_cov0, scr0_cov1, scr1_cov0, scr1_cov1]; rfl
    isplitl [H19]
    · iexists _; isplitr; swap
      · iexists _; isplitr; swap; · iexact H19
        ipureintro; rfl
      ipureintro
      refine RowPut.of_writes _ _ _ _ _ (koff i) hf19 ?_
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.cst_40 kernelRun0_A.sl.cst_97 kernelRun0_A.sl.v97 kernelRun0_A.sl.v187 kernelRun0_A.sl.v47 kernelRun0_A.sl.v106 kernelRun0_A.sl.HS0_2 kernelRun0_A.sl.HS1_2; simp only [scr0_cov0, scr0_cov1, scr1_cov0, scr1_cov1]; rfl
    isplitl [H20]
    · iexists _; isplitr; swap; · iexact H20
      ipureintro
      refine (View.read_writes_full _ _ _ _ _).trans ?_
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.cst_40 kernelRun0_A.sl.cst_97 kernelRun0_A.sl.v97 kernelRun0_A.sl.v187 kernelRun0_A.sl.v47 kernelRun0_A.sl.v106 kernelRun0_A.sl.HS0_2 kernelRun0_A.sl.HS1_2; simp only [scr0_cov0, scr0_cov1, scr1_cov0, scr1_cov1]; rfl
    isplitl [H21]
    · iexists _; isplitr; swap
      · iexists _; isplitr; swap; · iexact H21
        ipureintro; rfl
      ipureintro
      refine RowPut.of_writes _ _ _ _ _ (koff i) hf21 ?_
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.cst_40 kernelRun0_A.sl.cst_97 kernelRun0_A.sl.v97 kernelRun0_A.sl.v187 kernelRun0_A.sl.v47 kernelRun0_A.sl.v106 kernelRun0_A.sl.HS0_2 kernelRun0_A.sl.HS1_2; simp only [scr0_cov0, scr0_cov1, scr1_cov0, scr1_cov1]; rfl
    isplitl [HS0]
    · iexists _; isplitr; swap; · iexact HS0
      ipureintro; exact scr0_read _ _ _
    iexists _; isplitr; swap; · iexact HS1
    ipureintro; exact scr1_read _ _ _

end Cert.TransitionIdeal.Hand

end
-- ==== Proof.TransitionRunB.lean ====
/- The `transition` body run at a later grid point. -/
module

public import proofs.«01_k».proof.Proof.TransitionKit

@[expose] public section

set_option maxRecDepth 16384

noncomputable section

namespace Cert.TransitionIdeal.Hand

open Cert.Hand Cert.TransitionIdeal Cert.TransitionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a grid point after the first: from the input blocks at their contents and the scratch at given contents it runs to the continuation holding the inputs as they
    were, each whole output block at its function of them, each per-row output with row `i 0` overwritten, and the scratch at its
    stated contents. -/
theorem kernelRun0_B (c : Dev nD) (i : grid0.Coords) (arg1 : Memref sig .tc .vmem S1x16x48x640 .f32) (harg1 : arg1.IsWhole) (arg2 : Memref sig .tc .vmem S1x640x768 .bf16) (harg2 : arg2.IsWhole) (arg3 : Memref sig .tc .vmem S1x640x384 .bf16) (harg3 : arg3.IsWhole) (arg4 : Memref sig .tc .vmem S1x384 .f32) (harg4 : arg4.IsWhole) (arg5 : Memref sig .tc .vmem S384x2x768 .bf16) (harg5 : arg5.IsWhole) (arg6 : Memref sig .tc .vmem S2x768 .f32) (harg6 : arg6.IsWhole) (arg7 : Memref sig .tc .vmem S384x2x768 .bf16) (harg7 : arg7.IsWhole) (arg8 : Memref sig .tc .vmem S1x768 .f32) (harg8 : arg8.IsWhole) (arg9 : Memref sig .tc .vmem S16x48x768 .fp8e4m3) (harg9 : arg9.IsWhole) (arg10 : Memref sig .tc .vmem S1x768 .f32) (harg10 : arg10.IsWhole) (arg11 : Memref sig .tc .vmem S2x768x1536 .fp8e4m3) (harg11 : arg11.IsWhole) (arg12 : Memref sig .tc .vmem S2x1536 .f32) (harg12 : arg12.IsWhole) (arg13 : Memref sig .tc .vmem S1536x768 .fp8e4m3) (harg13 : arg13.IsWhole) (arg14 : Memref sig .tc .vmem S1x768 .f32) (harg14 : arg14.IsWhole) (arg15 : Memref sig .tc .vmem S1x640x768 .bf16) (harg15 : arg15.IsWhole) (arg16 : Memref sig .tc .vmem S1x640x768 .f32) (harg16 : arg16.IsWhole) (arg17 : Memref sig .tc .vmem S1x16x48x640 .fp8e4m3) (harg17 : arg17.IsWhole) (arg18 : Memref sig .tc .vmem S3x640 .f32) (harg18 : arg18.IsWhole) (arg19 : Memref sig .tc .vmem S1x640x768 .fp8e4m3) (harg19 : arg19.IsWhole) (arg20 : Memref sig .tc .vmem S3x640 .f32) (harg20 : arg20.IsWhole) (arg21 : Memref sig .tc .vmem S1x640x1536 .fp8e4m3) (harg21 : arg21.IsWhole) (arg22 : Memref sig .tc .vmem S3x640 .f32) (harg22 : arg22.IsWhole) (arg23 : Memref sig .tc .vmem S2x384x768 .bf16) (harg23 : arg23.IsWhole) (arg24 : Memref sig .tc .vmem S2x384x768 .bf16) (harg24 : arg24.IsWhole) (hc0 : ¬cond0_0 i)
    (x0 : Vec F S1x16x48x640 .f32) (x1 : Vec F S1x640x768 .bf16) (x2 : Vec F S1x640x384 .bf16) (x3 : Vec F S1x384 .f32) (x4 : Vec F S384x2x768 .bf16) (x5 : Vec F S2x768 .f32) (x6 : Vec F S384x2x768 .bf16) (x7 : Vec F S1x768 .f32) (x8 : Vec F S16x48x768 .fp8e4m3) (x9 : Vec F S1x768 .f32) (x10 : Vec F S2x768x1536 .fp8e4m3) (x11 : Vec F S2x1536 .f32) (x12 : Vec F S1536x768 .fp8e4m3) (x13 : Vec F S1x768 .f32) (s0 : Vec F S2x384x768 .bf16) (s1 : Vec F S2x384x768 .bf16) (y17 : Vec F S3x640 .f32) (y19 : Vec F S3x640 .f32) (y21 : Vec F S3x640 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare y17 ∗ (∃ d, owns (c : Thread nD τ) arg19 fullShare d) ∗ owns (c : Thread nD τ) arg20 fullShare y19 ∗ (∃ d, owns (c : Thread nD τ) arg21 fullShare d) ∗ owns (c : Thread nD τ) arg22 fullShare y21 ∗ owns (c : Thread nD τ) arg23 fullShare s0 ∗ owns (c : Thread nD τ) arg24 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (o14 x0 x1 x2 x3 x5 x7 x8 x9 x10 x11 x12 x13 s0 s1) ∗ owns (c : Thread nD τ) arg16 fullShare (o15 x0 x1 x2 x5 x8 x9 s0) ∗ owns (c : Thread nD τ) arg17 fullShare (o16 x0) ∗ (∃ d, ⌜RowPut (i 0).val (o17 x0) y17 d⌝ ∗ owns (c : Thread nD τ) arg18 fullShare d) ∗ owns (c : Thread nD τ) arg19 fullShare (o18 x0 x1 x2 x3 x5 x7 x8 x9 s0 s1) ∗ (∃ d, ⌜RowPut (i 0).val (o19 x0 x1 x2 x3 x5 x7 x8 x9 s0 s1) y19 d⌝ ∗ owns (c : Thread nD τ) arg20 fullShare d) ∗ owns (c : Thread nD τ) arg21 fullShare (o20 x0 x1 x2 x3 x5 x7 x8 x9 x10 x11 s0 s1) ∗ (∃ d, ⌜RowPut (i 0).val (o21 x0 x1 x2 x3 x5 x7 x8 x9 x10 x11 s0 s1) y21 d⌝ ∗ owns (c : Thread nD τ) arg22 fullShare d) ∗ owns (c : Thread nD τ) arg23 fullShare s0 ∗ owns (c : Thread nD τ) arg24 fullShare s1) -∗ K ⟨⟩))
          ⊢ wp frame (wpE (defs₀ (F := F)) Variants.none c none) E (cc0_transition i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_transition_eq_skeleton]; unfold cc0_transition_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%f17, %hf17, H17⟩, ⟨%d18, %f18, -, H18⟩, ⟨%f19, %hf19, H19⟩, ⟨%d20, %f20, -, H20⟩, ⟨%f21, %hf21, H21⟩, ⟨%fs0, %hfs0, HS0⟩, ⟨%fs1, %hfs1, HS1⟩, Hk⟩
    subst hf0; subst hf1; subst hf2; subst hf3; subst hf4; subst hf5; subst hf6; subst hf7; subst hf8; subst hf9; subst hf10; subst hf11; subst hf12; subst hf13; subst hfs0; subst hfs1
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    isplitl [H13]
    · iexists _; isplitr; · ipureintro; rfl
      iexact H13
    isplitl [H14]
    · iexists _; isplitr; swap; · iexact H14
      ipureintro
      refine (View.read_writes_full _ _ _ _ _).trans ?_
      rfl
    isplitl [H15]
    · iexists _; isplitr; swap; · iexact H15
      ipureintro
      refine (View.read_writes_full _ _ _ _ _).trans ?_
      rfl
    isplitl [H16]
    · iexists _; isplitr; swap; · iexact H16
      ipureintro
      refine (View.read_writes_full _ _ _ _ _).trans ?_
      rfl
    isplitl [H17]
    · iexists _; isplitr; swap
      · iexists _; isplitr; swap; · iexact H17
        ipureintro; rfl
      ipureintro
      refine RowPut.of_writes _ _ _ _ _ (koff i) hf17 ?_
      rfl
    isplitl [H18]
    · iexists _; isplitr; swap; · iexact H18
      ipureintro
      refine (View.read_writes_full _ _ _ _ _).trans ?_
      rfl
    isplitl [H19]
    · iexists _; isplitr; swap
      · iexists _; isplitr; swap; · iexact H19
        ipureintro; rfl
      ipureintro
      refine RowPut.of_writes _ _ _ _ _ (koff i) hf19 ?_
      rfl
    isplitl [H20]
    · iexists _; isplitr; swap; · iexact H20
      ipureintro
      refine (View.read_writes_full _ _ _ _ _).trans ?_
      rfl
    isplitl [H21]
    · iexists _; isplitr; swap
      · iexists _; isplitr; swap; · iexact H21
        ipureintro; rfl
      ipureintro
      refine RowPut.of_writes _ _ _ _ _ (koff i) hf21 ?_
      rfl
    isplitl [HS0]
    · iexists _; isplitr; swap; · iexact HS0
      ipureintro; rfl
    iexists _; isplitr; swap; · iexact HS1
    ipureintro; rfl

end Cert.TransitionIdeal.Hand

end
-- ==== Proof.TransitionFrame.lean ====
/- The frame of the `transition` call, by hand: its proof data (each output held to a relation, since the per-row outputs are
   written one row per grid point and the scratch is filled at the first point only), the body obligation, the run and the
   frame claim. -/
module

public import proofs.«01_k».proof.Proof.TransitionRunA
public import proofs.«01_k».proof.Proof.TransitionRunB
public import Idealize.ShloMosaic.Lib.Pipeline.DatRel
public import Idealize.ShloMosaic.Lib.Claim

@[expose] public section

set_option maxRecDepth 16384

noncomputable section

namespace Cert.TransitionIdeal.Hand

open Cert.Hand Cert.TransitionIdeal Cert.TransitionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t0 : Fin cfg0.N := ⟨0, lt_of_lt_of_eq (by norm_num) (show cfg0.N = 3 from N_0).symm⟩

/-- The grid point that writes row `r`. -/
def pt (r : Fin 3) : Fin cfg0.N := ⟨r.val, lt_of_lt_of_eq r.isLt (show cfg0.N = 3 from N_0).symm⟩

/-- The output windows, each held to the relation `Rl`. -/
def forgets0 : Fin 22 → Bool := fun w => w.val == 14 || w.val == 15 || w.val == 16 || w.val == 17 || w.val == 18 || w.val == 19 || w.val == 20 || w.val == 21

/-- What the body leaves in an output window at point `t`: a whole block is the body's function of the input blocks; of a
    per-row output the rows up to `t` are. -/
def Rl (c : Dev nD) : (w : Fin cfg0.W) → (t : Fin cfg0.N) → ((cfg0.win w).block.Idx → Elt F (cfg0.win w).elt) → Prop := fun w t => match w with
  | ⟨14, _⟩ => fun X => X = o14 (iblk m c 0 t) (iblk m c 1 t) (iblk m c 2 t) (iblk m c 3 t) (iblk m c 5 t) (iblk m c 7 t) (iblk m c 8 t) (iblk m c 9 t) (iblk m c 10 t) (iblk m c 11 t) (iblk m c 12 t) (iblk m c 13 t) (scr0 (iblk m c 4 t0)) (scr1 (iblk m c 6 t0))
  | ⟨15, _⟩ => fun X => X = o15 (iblk m c 0 t) (iblk m c 1 t) (iblk m c 2 t) (iblk m c 5 t) (iblk m c 8 t) (iblk m c 9 t) (scr0 (iblk m c 4 t0))
  | ⟨16, _⟩ => fun X => X = o16 (iblk m c 0 t)
  | ⟨17, _⟩ => fun X => ∀ (r : Fin 3) (n : Fin 640), r.val ≤ t.val → X (ix2 r n) = o17 (iblk m c 0 (pt r)) (ix2 0 n)
  | ⟨18, _⟩ => fun X => X = o18 (iblk m c 0 t) (iblk m c 1 t) (iblk m c 2 t) (iblk m c 3 t) (iblk m c 5 t) (iblk m c 7 t) (iblk m c 8 t) (iblk m c 9 t) (scr0 (iblk m c 4 t0)) (scr1 (iblk m c 6 t0))
  | ⟨19, _⟩ => fun X => ∀ (r : Fin 3) (n : Fin 640), r.val ≤ t.val → X (ix2 r n) = o19 (iblk m c 0 (pt r)) (iblk m c 1 (pt r)) (iblk m c 2 (pt r)) (iblk m c 3 (pt r)) (iblk m c 5 (pt r)) (iblk m c 7 (pt r)) (iblk m c 8 (pt r)) (iblk m c 9 (pt r)) (scr0 (iblk m c 4 t0)) (scr1 (iblk m c 6 t0)) (ix2 0 n)
  | ⟨20, _⟩ => fun X => X = o20 (iblk m c 0 t) (iblk m c 1 t) (iblk m c 2 t) (iblk m c 3 t) (iblk m c 5 t) (iblk m c 7 t) (iblk m c 8 t) (iblk m c 9 t) (iblk m c 10 t) (iblk m c 11 t) (scr0 (iblk m c 4 t0)) (scr1 (iblk m c 6 t0))
  | ⟨21, _⟩ => fun X => ∀ (r : Fin 3) (n : Fin 640), r.val ≤ t.val → X (ix2 r n) = o21 (iblk m c 0 (pt r)) (iblk m c 1 (pt r)) (iblk m c 2 (pt r)) (iblk m c 3 (pt r)) (iblk m c 5 (pt r)) (iblk m c 7 (pt r)) (iblk m c 8 (pt r)) (iblk m c 9 (pt r)) (iblk m c 10 (pt r)) (iblk m c 11 (pt r)) (scr0 (iblk m c 4 t0)) (scr1 (iblk m c 6 t0)) (ix2 0 n)
  | _ => fun _ => True

/-- The proof data: the arrays as the region finds them, each input buffer at its block, the outputs named by `Rl` only, and
    as invariant the scratch, at its stated contents once filled, with the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ t := iprop(((∃ d, ⌜t.val ≠ 0 → d = scr0 (iblk m c 4 t0)⌝ ∗ owns (c : Thread nD τ) scM0_0 fullShare d) ∗ (∃ d, ⌜t.val ≠ 0 → d = scr1 (iblk m c 6 t0)⌝ ∗ owns (c : Thread nD τ) scM0_1 fullShare d)) ∗ (∃ r, prngReg c r))
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- The first coordinate of grid point `t` is `t`. -/
theorem coord0 (t : Fin cfg0.N) : (grid0.coords t 0).val = t.val := by
  have ht : t.val < 3 := Nat.lt_of_lt_of_eq t.isLt N_0
  have e0 : (grid0.coords t 0).val = t.val / 1 % 3 := Pipeline.Grid.coords_val t 0 (by decide) rfl
  omega

theorem fetch_17 : ∀ t : Fin cfg0.N, (cfg0.win 17).fetch t = false := by decide +kernel
theorem flush_17 : ∀ t : Fin cfg0.N, t.val < 2 → (cfg0.win 17).flush t = false := by decide +kernel

/-- Window 17: overwriting row `t` of what the point finds gives what it must leave. -/
theorem row_17 (c : Dev nD) (t : Fin cfg0.N) (Y X : Vec F S3x640 .f32)
    (hF : ((dats m 0 c).toRRel forgets0 (Rl m c)).Finds 17 t Y)
    (hX : RowPut (grid0.coords t 0).val (o17 (iblk m c 0 t)) Y X) : Rl m c 17 t X := by
  intro r n hr
  have hN : t.val < 3 := lt_of_lt_of_eq t.isLt (show cfg0.N = 3 from N_0)
  rw [hX r n, coord0]
  by_cases h : r.val = t.val
  · rw [if_pos h]
    have e : pt r = t := Fin.ext h
    rw [e]
  · rw [if_neg h]
    have ht : t.val ≠ 0 := by omega
    rcases (((dats m 0 c).toRRel forgets0 (Rl m c)).finds_of_pos (fetch_17 t) ht Y).mp hF with hfl | hL
    · rw [flush_17 _ (by simp only; omega)] at hfl
      exact absurd hfl Bool.false_ne_true
    · have := Pipeline.Dat.toRRel_leaves (dats m 0 c) (fgt := forgets0) (Rl := Rl m c) (by decide) hL
      exact this r n (by simp only; omega)

theorem fetch_19 : ∀ t : Fin cfg0.N, (cfg0.win 19).fetch t = false := by decide +kernel
theorem flush_19 : ∀ t : Fin cfg0.N, t.val < 2 → (cfg0.win 19).flush t = false := by decide +kernel

/-- Window 19: overwriting row `t` of what the point finds gives what it must leave. -/
theorem row_19 (c : Dev nD) (t : Fin cfg0.N) (Y X : Vec F S3x640 .f32)
    (hF : ((dats m 0 c).toRRel forgets0 (Rl m c)).Finds 19 t Y)
    (hX : RowPut (grid0.coords t 0).val (o19 (iblk m c 0 t) (iblk m c 1 t) (iblk m c 2 t) (iblk m c 3 t) (iblk m c 5 t) (iblk m c 7 t) (iblk m c 8 t) (iblk m c 9 t) (scr0 (iblk m c 4 t0)) (scr1 (iblk m c 6 t0))) Y X) : Rl m c 19 t X := by
  intro r n hr
  have hN : t.val < 3 := lt_of_lt_of_eq t.isLt (show cfg0.N = 3 from N_0)
  rw [hX r n, coord0]
  by_cases h : r.val = t.val
  · rw [if_pos h]
    have e : pt r = t := Fin.ext h
    rw [e]
  · rw [if_neg h]
    have ht : t.val ≠ 0 := by omega
    rcases (((dats m 0 c).toRRel forgets0 (Rl m c)).finds_of_pos (fetch_19 t) ht Y).mp hF with hfl | hL
    · rw [flush_19 _ (by simp only; omega)] at hfl
      exact absurd hfl Bool.false_ne_true
    · have := Pipeline.Dat.toRRel_leaves (dats m 0 c) (fgt := forgets0) (Rl := Rl m c) (by decide) hL
      exact this r n (by simp only; omega)

theorem fetch_21 : ∀ t : Fin cfg0.N, (cfg0.win 21).fetch t = false := by decide +kernel
theorem flush_21 : ∀ t : Fin cfg0.N, t.val < 2 → (cfg0.win 21).flush t = false := by decide +kernel

/-- Window 21: overwriting row `t` of what the point finds gives what it must leave. -/
theorem row_21 (c : Dev nD) (t : Fin cfg0.N) (Y X : Vec F S3x640 .f32)
    (hF : ((dats m 0 c).toRRel forgets0 (Rl m c)).Finds 21 t Y)
    (hX : RowPut (grid0.coords t 0).val (o21 (iblk m c 0 t) (iblk m c 1 t) (iblk m c 2 t) (iblk m c 3 t) (iblk m c 5 t) (iblk m c 7 t) (iblk m c 8 t) (iblk m c 9 t) (iblk m c 10 t) (iblk m c 11 t) (scr0 (iblk m c 4 t0)) (scr1 (iblk m c 6 t0))) Y X) : Rl m c 21 t X := by
  intro r n hr
  have hN : t.val < 3 := lt_of_lt_of_eq t.isLt (show cfg0.N = 3 from N_0)
  rw [hX r n, coord0]
  by_cases h : r.val = t.val
  · rw [if_pos h]
    have e : pt r = t := Fin.ext h
    rw [e]
  · rw [if_neg h]
    have ht : t.val ≠ 0 := by omega
    rcases (((dats m 0 c).toRRel forgets0 (Rl m c)).finds_of_pos (fetch_21 t) ht Y).mp hF with hfl | hL
    · rw [flush_21 _ (by simp only; omega)] at hfl
      exact absurd hfl Bool.false_ne_true
    · have := Pipeline.Dat.toRRel_leaves (dats m 0 c) (fgt := forgets0) (Rl := Rl m c) (by decide) hL
      exact this r n (by simp only; omega)

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ Y, ⌜((dats m 0 c).toRRel forgets0 (Rl m c)).Finds 14 t Y⌝ ∗ owns (c : Thread nD τ) (ms0_14 t) fullShare Y)
    ∗ (∃ Y, ⌜((dats m 0 c).toRRel forgets0 (Rl m c)).Finds 15 t Y⌝ ∗ owns (c : Thread nD τ) (ms0_15 t) fullShare Y)
    ∗ (∃ Y, ⌜((dats m 0 c).toRRel forgets0 (Rl m c)).Finds 16 t Y⌝ ∗ owns (c : Thread nD τ) (ms0_16 t) fullShare Y)
    ∗ (∃ Y, ⌜((dats m 0 c).toRRel forgets0 (Rl m c)).Finds 17 t Y⌝ ∗ owns (c : Thread nD τ) (ms0_17 t) fullShare Y)
    ∗ (∃ Y, ⌜((dats m 0 c).toRRel forgets0 (Rl m c)).Finds 18 t Y⌝ ∗ owns (c : Thread nD τ) (ms0_18 t) fullShare Y)
    ∗ (∃ Y, ⌜((dats m 0 c).toRRel forgets0 (Rl m c)).Finds 19 t Y⌝ ∗ owns (c : Thread nD τ) (ms0_19 t) fullShare Y)
    ∗ (∃ Y, ⌜((dats m 0 c).toRRel forgets0 (Rl m c)).Finds 20 t Y⌝ ∗ owns (c : Thread nD τ) (ms0_20 t) fullShare Y)
    ∗ (∃ Y, ⌜((dats m 0 c).toRRel forgets0 (Rl m c)).Finds 21 t Y⌝ ∗ owns (c : Thread nD τ) (ms0_21 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ (∃ X, ⌜Rl m c 14 t X⌝ ∗ owns (c : Thread nD τ) (ms0_14 t) fullShare X)
    ∗ (∃ X, ⌜Rl m c 15 t X⌝ ∗ owns (c : Thread nD τ) (ms0_15 t) fullShare X)
    ∗ (∃ X, ⌜Rl m c 16 t X⌝ ∗ owns (c : Thread nD τ) (ms0_16 t) fullShare X)
    ∗ (∃ X, ⌜Rl m c 17 t X⌝ ∗ owns (c : Thread nD τ) (ms0_17 t) fullShare X)
    ∗ (∃ X, ⌜Rl m c 18 t X⌝ ∗ owns (c : Thread nD τ) (ms0_18 t) fullShare X)
    ∗ (∃ X, ⌜Rl m c 19 t X⌝ ∗ owns (c : Thread nD τ) (ms0_19 t) fullShare X)
    ∗ (∃ X, ⌜Rl m c 20 t X⌝ ∗ owns (c : Thread nD τ) (ms0_20 t) fullShare X)
    ∗ (∃ X, ⌜Rl m c 21 t X⌝ ∗ owns (c : Thread nD τ) (ms0_21 t) fullShare X))

set_option maxHeartbeats 4800000 in
/-- The body at any grid point: the inputs' memrefs hold their blocks; the first point fills the scratch, the later ones find it
    filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = iprop(((∃ d, ⌜t.castSucc.val ≠ 0 → d = scr0 (iblk m c 4 t0)⌝ ∗ owns (c : Thread nD τ) scM0_0 fullShare d) ∗ (∃ d, ⌜t.castSucc.val ≠ 0 → d = scr1 (iblk m c 6 t0)⌝ ∗ owns (c : Thread nD τ) scM0_1 fullShare d)) ∗ (∃ r, prngReg c r)) from rfl,
    show (dats m 0 c).Φ t.succ = iprop(((∃ d, ⌜t.succ.val ≠ 0 → d = scr0 (iblk m c 4 t0)⌝ ∗ owns (c : Thread nD τ) scM0_0 fullShare d) ∗ (∃ d, ⌜t.succ.val ≠ 0 → d = scr1 (iblk m c 6 t0)⌝ ∗ owns (c : Thread nD τ) scM0_1 fullShare d)) ∗ (∃ r, prngReg c r)) from rfl]
  have hN : t.val < 3 := lt_of_lt_of_eq t.isLt (show cfg0.N = 3 from N_0)
  by_cases h0 : t.val % 3 = 0
  · obtain rfl : t = t0 := Fin.ext (by show t.val = 0; omega)
    iintro ⟨⟨⟨⟨%e0, %he0, HS0⟩, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, %hF14, H14⟩, ⟨%d15, %hF15, H15⟩, ⟨%d16, %hF16, H16⟩, ⟨%d17, %hF17, H17⟩, ⟨%d18, %hF18, H18⟩, ⟨%d19, %hF19, H19⟩, ⟨%d20, %hF20, H20⟩, ⟨%d21, %hF21, H21⟩⟩
    iapply ((kernelRun0_A c (grid0.coords t0) _ _ _ _ _ _ _ _ _ _ _ _ _ _ _ _ _ _ _ _ _ _ _ _ _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) d17 d19 d21) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexact H17
    isplitl [H18]; · iexists _; iexact H18
    isplitl [H19]; · iexact H19
    isplitl [H20]; · iexists _; iexact H20
    isplitl [H21]; · iexact H21
    isplitl [HS0]; · iexists _; iexact HS0
    isplitl [HS1]; · iexists _; iexact HS1
    iintro ⟨H0, H1, H2, H3, H4, H5, H6, H7, H8, H9, H10, H11, H12, H13, H14, H15, H16, ⟨%z17, %hz17, H17⟩, H18, ⟨%z19, %hz19, H19⟩, H20, ⟨%z21, %hz21, H21⟩, HS0, HS1⟩
    isplitl [HS0 HS1 Hg]
    · isplitl [HS0 HS1]
      · isplitl [HS0]
        · iexists _; isplitr; swap; · iexact HS0
          ipureintro; exact fun _ => rfl
        iexists _; isplitr; swap; · iexact HS1
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists _; isplitr; swap; · iexact H14
      ipureintro; exact rfl
    isplitl [H15]
    · iexists _; isplitr; swap; · iexact H15
      ipureintro; exact rfl
    isplitl [H16]
    · iexists _; isplitr; swap; · iexact H16
      ipureintro; exact rfl
    isplitl [H17]
    · iexists _; isplitr; swap; · iexact H17
      ipureintro; exact row_17 m c t0 d17 z17 hF17 hz17
    isplitl [H18]
    · iexists _; isplitr; swap; · iexact H18
      ipureintro; exact rfl
    isplitl [H19]
    · iexists _; isplitr; swap; · iexact H19
      ipureintro; exact row_19 m c t0 d19 z19 hF19 hz19
    isplitl [H20]
    · iexists _; isplitr; swap; · iexact H20
      ipureintro; exact rfl
    iexists _; isplitr; swap; · iexact H21
    ipureintro; exact row_21 m c t0 d21 z21 hF21 hz21
  · have hne : t.castSucc.val ≠ 0 := by show t.val ≠ 0; omega
    iintro ⟨⟨⟨⟨%e0, %he0, HS0⟩, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, %hF14, H14⟩, ⟨%d15, %hF15, H15⟩, ⟨%d16, %hF16, H16⟩, ⟨%d17, %hF17, H17⟩, ⟨%d18, %hF18, H18⟩, ⟨%d19, %hF19, H19⟩, ⟨%d20, %hF20, H20⟩, ⟨%d21, %hF21, H21⟩⟩
    obtain rfl := he0 hne
    obtain rfl := he1 hne
    iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (scr0 (iblk m c 4 t0)) (scr1 (iblk m c 6 t0)) d17 d19 d21) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexact H17
    isplitl [H18]; · iexists _; iexact H18
    isplitl [H19]; · iexact H19
    isplitl [H20]; · iexists _; iexact H20
    isplitl [H21]; · iexact H21
    isplitl [HS0]; · iexact HS0
    isplitl [HS1]; · iexact HS1
    iintro ⟨H0, H1, H2, H3, H4, H5, H6, H7, H8, H9, H10, H11, H12, H13, H14, H15, H16, ⟨%z17, %hz17, H17⟩, H18, ⟨%z19, %hz19, H19⟩, H20, ⟨%z21, %hz21, H21⟩, HS0, HS1⟩
    isplitl [HS0 HS1 Hg]
    · isplitl [HS0 HS1]
      · isplitl [HS0]
        · iexists _; isplitr; swap; · iexact HS0
          ipureintro; exact fun _ => rfl
        iexists _; isplitr; swap; · iexact HS1
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists _; isplitr; swap; · iexact H14
      ipureintro; exact rfl
    isplitl [H15]
    · iexists _; isplitr; swap; · iexact H15
      ipureintro; exact rfl
    isplitl [H16]
    · iexists _; isplitr; swap; · iexact H16
      ipureintro; exact rfl
    isplitl [H17]
    · iexists _; isplitr; swap; · iexact H17
      ipureintro; exact row_17 m c t d17 z17 hF17 hz17
    isplitl [H18]
    · iexists _; isplitr; swap; · iexact H18
      ipureintro; exact rfl
    isplitl [H19]
    · iexists _; isplitr; swap; · iexact H19
      ipureintro; exact row_19 m c t d19 z19 hF19 hz19
    isplitl [H20]
    · iexists _; isplitr; swap; · iexact H20
      ipureintro; exact rfl
    iexists _; isplitr; swap; · iexact H21
    ipureintro; exact row_21 m c t d21 z21 hF21 hz21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation with the outputs held to `Rl`, at every point. -/
theorem body_obligation (c : Dev nD) : Pipeline.BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-- The relational proof data on core `c`. -/
abbrev rdat (c : Dev nD) : Pipeline.RDat τ (Elt F) Unit ℕ (UR sig nD τ) ℕ (cfgs 0) c := (dats m 0 c).toRRel forgets0 (Rl m c)

/-- The scratch at anything gives the invariant before the first point. -/
theorem hin (c : Dev nD) : (Pipeline.ΦA spec0 c : sProp 𝕄) ⊢ (dats (F := F) m 0 c).Φ 0 := by
  rw [PhiA0_eq, show (dats m 0 c).Φ 0 = iprop(((∃ d, ⌜(0 : Fin (cfg0.N + 1)).val ≠ 0 → d = scr0 (iblk m c 4 t0)⌝ ∗ owns (c : Thread nD τ) scM0_0 fullShare d) ∗ (∃ d, ⌜(0 : Fin (cfg0.N + 1)).val ≠ 0 → d = scr1 (iblk m c 6 t0)⌝ ∗ owns (c : Thread nD τ) scM0_1 fullShare d)) ∗ (∃ r, prngReg c r)) from rfl]
  iintro ⟨⟨⟨%e0, HS0⟩, ⟨%e1, HS1⟩⟩, Hg⟩
  isplitl [HS0 HS1]
  · isplitl [HS0]
    · iexists _; isplitr; swap; · iexact HS0
      ipureintro; exact fun h => absurd rfl h
    iexists _; isplitr; swap; · iexact HS1
    ipureintro; exact fun h => absurd rfl h
  iexact Hg

/-- The invariant after the last point gives the scratch back at some contents. -/
theorem hout (c : Dev nD) : (dats (F := F) m 0 c).Φ (Fin.last cfg0.N) ⊢ (Pipeline.ΦA spec0 c : sProp 𝕄) := by
  rw [PhiA0_eq, show (dats m 0 c).Φ (Fin.last cfg0.N) = iprop(((∃ d, ⌜(Fin.last cfg0.N).val ≠ 0 → d = scr0 (iblk m c 4 t0)⌝ ∗ owns (c : Thread nD τ) scM0_0 fullShare d) ∗ (∃ d, ⌜(Fin.last cfg0.N).val ≠ 0 → d = scr1 (iblk m c 6 t0)⌝ ∗ owns (c : Thread nD τ) scM0_1 fullShare d)) ∗ (∃ r, prngReg c r)) from rfl]
  iintro ⟨⟨⟨%e0, -, HS0⟩, ⟨%e1, -, HS1⟩⟩, Hg⟩
  isplitl [HS0 HS1]
  · isplitl [HS0]
    · iexists _; iexact HS0
    iexists _; iexact HS1
  iexact Hg

set_option backward.isDefEq.respectTransparency.types false in
/-- The run: every weakly fair execution terminates, with the outputs' contents as `Rl` has them and every counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track cfgs (0 : Fin 1) launch0 defs₀ Variants.none (rdat m) m ρ main
    (fun c => (body_obligation m c).toRRel) (fun c => (dats m 0 c).share_full fun _ => rfl)
    (fun _ _ => rfl) (V m) (hmain m Variants.none) (A_eq m) (hin m) (hout m) _ (fun _ h => h)

/-- The same without the counters. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_ofR m ρ (rdat m) (A_eq m) (run_main m ρ)

/-- The frame: the argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.TransitionIdeal.Hand

end
-- ==== Proof.TransitionBlocks.lean ====
/- What the blocks of the `transition` call's input windows hold at each grid point, read off the argument arrays. -/
module

public import proofs.«01_k».proof.Proof.TransitionFrame
public import Idealize.ShloMosaic.Lib.Pipeline.ValueKit

@[expose] public section

set_option maxRecDepth 16384

noncomputable section

namespace Cert.TransitionIdeal.Hand

open Cert.Hand Cert.TransitionIdeal Cert.TransitionIdeal.Gen
open Idealize.ShloMosaic Idealize.ShloMosaic.TcCoe Idealize.ShloMosaic.Tactic
open Idealize.SL Idealize.SL.Sem

variable (m : (ℓ : Loc nD τ sig) → Buf (Elt Ideal) ℓ)

/-- The block index of every window at every grid point. -/
theorem idx : ∀ t : Fin cfg0.N, win0_0.index t = ![t.val, 0, 0, 0]
    ∧ win0_1.index t = ![t.val, 0, 0]
    ∧ win0_2.index t = ![t.val, 0, 0]
    ∧ win0_3.index t = ![0, 0]
    ∧ win0_4.index t = ![0, 0, 0]
    ∧ win0_5.index t = ![0, 0]
    ∧ win0_6.index t = ![0, 0, 0]
    ∧ win0_7.index t = ![0, 0]
    ∧ win0_8.index t = ![0, 0, 0]
    ∧ win0_9.index t = ![0, 0]
    ∧ win0_10.index t = ![0, 0, 0]
    ∧ win0_11.index t = ![0, 0]
    ∧ win0_12.index t = ![0, 0]
    ∧ win0_13.index t = ![0, 0]
    ∧ win0_14.index t = ![t.val, 0, 0]
    ∧ win0_15.index t = ![t.val, 0, 0]
    ∧ win0_16.index t = ![t.val, 0, 0, 0]
    ∧ win0_17.index t = ![0, 0]
    ∧ win0_18.index t = ![t.val, 0, 0]
    ∧ win0_19.index t = ![0, 0]
    ∧ win0_20.index t = ![t.val, 0, 0]
    ∧ win0_21.index t = ![0, 0] :=
  (by decide +kernel : ∀ t : Fin grid0.N, _)

/-- The grid point that writes row `b` is point `b`. -/
theorem pt_val (b : Fin 3) : (pt b).val = b.val := rfl

/-- Window 0's block at point `b`. -/
theorem blk0 (c : Dev nD) (b : Fin 3) (e : Fin 16) (d : Fin 48) (n : Fin 640) : iblk m c 0 (pt b) (ix4 0 e d n) = m ((c : Thread nD τ).loc main_arg0) (ix4 b e d n) := by
  blk_point [iblk, V, idx (pt b), pt_val b]

/-- Window 1's block at point `b`. -/
theorem blk1 (c : Dev nD) (b : Fin 3) (n : Fin 640) (l : Fin 768) : iblk m c 1 (pt b) (ix3 0 n l) = m ((c : Thread nD τ).loc main_arg1) (ix3 b n l) := by
  blk_point [iblk, V, idx (pt b), pt_val b]

/-- Window 2's block at point `b`. -/
theorem blk2 (c : Dev nD) (b : Fin 3) (n : Fin 640) (l : Fin 384) : iblk m c 2 (pt b) (ix3 0 n l) = m ((c : Thread nD τ).loc main_arg2) (ix3 b n l) := by
  blk_point [iblk, V, idx (pt b), pt_val b]

/-- Window 3's block at point `b`. -/
theorem blk3 (c : Dev nD) (b : Fin 3) (l : Fin 384) : iblk m c 3 (pt b) (ix2 0 l) = m ((c : Thread nD τ).loc main_arg3) (ix1 l) := by
  blk_point [iblk, V, idx (pt b), pt_val b]

/-- Window 4's block at point `b`. -/
theorem blk4 (c : Dev nD) (b : Fin 3) (x : Fin 384) (h : Fin 2) (l : Fin 768) : iblk m c 4 (pt b) (ix3 x h l) = m ((c : Thread nD τ).loc main_arg4) (ix3 x h l) := by
  blk_point [iblk, V, idx (pt b), pt_val b]

/-- Window 5's block at point `b`. -/
theorem blk5 (c : Dev nD) (b : Fin 3) (h : Fin 2) (l : Fin 768) : iblk m c 5 (pt b) (ix2 h l) = m ((c : Thread nD τ).loc main_arg5) (ix2 h l) := by
  blk_point [iblk, V, idx (pt b), pt_val b]

/-- Window 6's block at point `b`. -/
theorem blk6 (c : Dev nD) (b : Fin 3) (x : Fin 384) (h : Fin 2) (l : Fin 768) : iblk m c 6 (pt b) (ix3 x h l) = m ((c : Thread nD τ).loc main_arg6) (ix3 x h l) := by
  blk_point [iblk, V, idx (pt b), pt_val b]

/-- Window 7's block at point `b`. -/
theorem blk7 (c : Dev nD) (b : Fin 3) (l : Fin 768) : iblk m c 7 (pt b) (ix2 0 l) = m ((c : Thread nD τ).loc main_arg7) (ix1 l) := by
  blk_point [iblk, V, idx (pt b), pt_val b]

/-- Window 8's block at point `b`. -/
theorem blk8 (c : Dev nD) (b : Fin 3) (e : Fin 16) (d : Fin 48) (l : Fin 768) : iblk m c 8 (pt b) (ix3 e d l) = m ((c : Thread nD τ).loc main_arg8) (ix3 e d l) := by
  blk_point [iblk, V, idx (pt b), pt_val b]

/-- Window 9's block at point `b`. -/
theorem blk9 (c : Dev nD) (b : Fin 3) (l : Fin 768) : iblk m c 9 (pt b) (ix2 0 l) = m ((c : Thread nD τ).loc main_arg9) (ix1 l) := by
  blk_point [iblk, V, idx (pt b), pt_val b]

/-- Window 10's block at point `b`. -/
theorem blk10 (c : Dev nD) (b : Fin 3) (h : Fin 2) (x : Fin 768) (k : Fin 1536) : iblk m c 10 (pt b) (ix3 h x k) = m ((c : Thread nD τ).loc main_arg10) (ix3 x h k) := by
  blk_point [iblk, V, idx (pt b), pt_val b]

/-- Window 11's block at point `b`. -/
theorem blk11 (c : Dev nD) (b : Fin 3) (h : Fin 2) (k : Fin 1536) : iblk m c 11 (pt b) (ix2 h k) = m ((c : Thread nD τ).loc main_arg11) (ix2 h k) := by
  blk_point [iblk, V, idx (pt b), pt_val b]

/-- Window 12's block at point `b`. -/
theorem blk12 (c : Dev nD) (b : Fin 3) (k : Fin 1536) (l : Fin 768) : iblk m c 12 (pt b) (ix2 k l) = m ((c : Thread nD τ).loc main_arg12) (ix2 k l) := by
  blk_point [iblk, V, idx (pt b), pt_val b]

/-- Window 13's block at point `b`. -/
theorem blk13 (c : Dev nD) (b : Fin 3) (l : Fin 768) : iblk m c 13 (pt b) (ix2 0 l) = m ((c : Thread nD τ).loc main_arg13) (ix1 l) := by
  blk_point [iblk, V, idx (pt b), pt_val b]

end Cert.TransitionIdeal.Hand

end

end
-- ==== Proof.TransitionFinal.lean ====
/- What the `transition` call leaves in each result, as a function of its arguments. -/
module

public import proofs.«01_k».proof.Proof.TransVal
public import proofs.«01_k».proof.Proof.TransitionBlocks
public import Idealize.ShloMosaic.Lib.Pipeline.ArrRel

@[expose] public section

set_option maxRecDepth 16384

noncomputable section

namespace Cert.TransitionIdeal.Hand

open Cert.Hand Cert.TransitionIdeal Cert.TransitionIdeal.Gen
open Idealize.ShloMosaic Idealize.ShloMosaic.TcCoe Idealize.ShloMosaic.Tactic
open Idealize.SL Idealize.SL.Sem
open Idealize.ShloMosaic.Pipeline (Dat RDat)

variable (m : (ℓ : Loc nD τ sig) → Buf (Elt Ideal) ℓ) (ρ : Dev nD → PrngReg)

/-- The blocks at point `b` hold batch entry `b` of the arguments. -/
theorem agree (c : Dev nD) (b : Fin 3) : T.Agree b (iblk m c 0 (pt b)) (iblk m c 1 (pt b)) (iblk m c 2 (pt b)) (iblk m c 3 (pt b)) (iblk m c 4 t0) (iblk m c 5 (pt b)) (iblk m c 6 t0) (iblk m c 7 (pt b)) (iblk m c 8 (pt b)) (iblk m c 9 (pt b)) (iblk m c 10 (pt b)) (iblk m c 11 (pt b)) (iblk m c 12 (pt b)) (iblk m c 13 (pt b))
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) where
  h0 := blk0 m c b
  h1 := blk1 m c b
  h2 := blk2 m c b
  h3 := blk3 m c b
  h4 := blk4 m c 0
  h5 := blk5 m c b
  h6 := blk6 m c 0
  h7 := blk7 m c b
  h8 := blk8 m c b
  h9 := blk9 m c b
  h10 := blk10 m c b
  h11 := blk11 m c b
  h12 := blk12 m c b
  h13 := blk13 m c b

/-- Every grid point writes one batch entry. -/
theorem pt_surj (t : Fin cfg0.N) : ∃ b : Fin 3, t = pt b :=
  ⟨⟨t.val, lt_of_lt_of_eq t.isLt (show cfg0.N = 3 from N_0)⟩, rfl⟩

section

variable {c : Dev nD} {after : (w' : Fin cfg0.W) → Fin cfg0.N → (cfg0.win w').block.Idx → Elt Ideal (cfg0.win w').elt}
  (hL : ∀ (w : Fin cfg0.W) (u : Fin cfg0.N), (cfg0.win w).flush u = true → (rdat m c).Leaves w u (after w u))

include hL

/-- Result window 14 after the run. -/
theorem final14 : ((rdat m c).withAfter after).arrAt 14 (cfgs 0).N = T.r14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((rdat m c).withAfter after).arrAt_eq_of_covers 14 _ (by decide +kernel) fun t hf y => ?_
  have hX := (dats m 0 c).toRRel_leaves (fgt := forgets0) (Rl := Rl m c) (by decide) (hL 14 t hf)
  obtain ⟨b, rfl⟩ := pt_surj t
  obtain ⟨z, n, l, rfl⟩ : ∃ (z : Fin 1) (n : Fin 640) (l : Fin 768), y = ix3 z n l := ⟨y 0, y 1, y 2, eq_ix3 y⟩
  obtain rfl : z = 0 := Subsingleton.elim _ _
  have hem : ((cfg0.win 14).blk (pt b)).view.emb (ix3 0 n l) = ix3 b n l := by blk_ext [idx (pt b), pt_val b]
  rw [hem]
  refine Eq.trans ?_ (T.v14 b (agree m c b) n l)
  exact congrFun hX _

/-- Result window 15 after the run. -/
theorem final15 : ((rdat m c).withAfter after).arrAt 15 (cfgs 0).N = T.rAM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((rdat m c).withAfter after).arrAt_eq_of_covers 15 _ (by decide +kernel) fun t hf y => ?_
  have hX := (dats m 0 c).toRRel_leaves (fgt := forgets0) (Rl := Rl m c) (by decide) (hL 15 t hf)
  obtain ⟨b, rfl⟩ := pt_surj t
  obtain ⟨z, n, l, rfl⟩ : ∃ (z : Fin 1) (n : Fin 640) (l : Fin 768), y = ix3 z n l := ⟨y 0, y 1, y 2, eq_ix3 y⟩
  obtain rfl : z = 0 := Subsingleton.elim _ _
  have hem : ((cfg0.win 15).blk (pt b)).view.emb (ix3 0 n l) = ix3 b n l := by blk_ext [idx (pt b), pt_val b]
  rw [hem]
  refine Eq.trans ?_ (T.v15 b (agree m c b) n l)
  exact congrFun hX _

/-- Result window 16 after the run. -/
theorem final16 : ((rdat m c).withAfter after).arrAt 16 (cfgs 0).N = T.r16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((rdat m c).withAfter after).arrAt_eq_of_covers 16 _ (by decide +kernel) fun t hf y => ?_
  have hX := (dats m 0 c).toRRel_leaves (fgt := forgets0) (Rl := Rl m c) (by decide) (hL 16 t hf)
  obtain ⟨b, rfl⟩ := pt_surj t
  obtain ⟨z, e, d, n, rfl⟩ : ∃ (z : Fin 1) (e : Fin 16) (d : Fin 48) (n : Fin 640), y = ix4 z e d n := ⟨y 0, y 1, y 2, y 3, eq_ix4 y⟩
  obtain rfl : z = 0 := Subsingleton.elim _ _
  have hem : ((cfg0.win 16).blk (pt b)).view.emb (ix4 0 e d n) = ix4 b e d n := by blk_ext [idx (pt b), pt_val b]
  rw [hem]
  refine Eq.trans ?_ (T.v16 b (agree m c b) e d n)
  exact congrFun hX _

/-- Result window 17 after the run. -/
theorem final17 : ((rdat m c).withAfter after).arrAt 17 (cfgs 0).N = T.r17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((rdat m c).withAfter after).arrAt_eq_of_covers 17 _ (by decide +kernel) fun t hf y => ?_
  have hX := (dats m 0 c).toRRel_leaves (fgt := forgets0) (Rl := Rl m c) (by decide) (hL 17 t hf)
  have ht : t.val = 2 := by
    have h2 : ∀ t : Fin cfg0.N, (cfg0.win 17).flush t = true → t.val = 2 := (by decide +kernel : ∀ t : Fin grid0.N, _)
    exact h2 t hf
  obtain ⟨b, n, rfl⟩ : ∃ (b : Fin 3) (n : Fin 640), y = ix2 b n := ⟨y 0, y 1, eq_ix2 y⟩
  have hem : ((cfg0.win 17).blk t).view.emb (ix2 b n) = ix2 b n := by blk_ext [idx t]
  rw [hem]
  refine Eq.trans ?_ (T.v17 b (agree m c b) n)
  exact hX b n (by omega)

/-- Result window 18 after the run. -/
theorem final18 : ((rdat m c).withAfter after).arrAt 18 (cfgs 0).N = T.r18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((rdat m c).withAfter after).arrAt_eq_of_covers 18 _ (by decide +kernel) fun t hf y => ?_
  have hX := (dats m 0 c).toRRel_leaves (fgt := forgets0) (Rl := Rl m c) (by decide) (hL 18 t hf)
  obtain ⟨b, rfl⟩ := pt_surj t
  obtain ⟨z, n, l, rfl⟩ : ∃ (z : Fin 1) (n : Fin 640) (l : Fin 768), y = ix3 z n l := ⟨y 0, y 1, y 2, eq_ix3 y⟩
  obtain rfl : z = 0 := Subsingleton.elim _ _
  have hem : ((cfg0.win 18).blk (pt b)).view.emb (ix3 0 n l) = ix3 b n l := by blk_ext [idx (pt b), pt_val b]
  rw [hem]
  refine Eq.trans ?_ (T.v18 b (agree m c b) n l)
  exact congrFun hX _

/-- Result window 19 after the run. -/
theorem final19 : ((rdat m c).withAfter after).arrAt 19 (cfgs 0).N = T.r19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((rdat m c).withAfter after).arrAt_eq_of_covers 19 _ (by decide +kernel) fun t hf y => ?_
  have hX := (dats m 0 c).toRRel_leaves (fgt := forgets0) (Rl := Rl m c) (by decide) (hL 19 t hf)
  have ht : t.val = 2 := by
    have h2 : ∀ t : Fin cfg0.N, (cfg0.win 19).flush t = true → t.val = 2 := (by decide +kernel : ∀ t : Fin grid0.N, _)
    exact h2 t hf
  obtain ⟨b, n, rfl⟩ : ∃ (b : Fin 3) (n : Fin 640), y = ix2 b n := ⟨y 0, y 1, eq_ix2 y⟩
  have hem : ((cfg0.win 19).blk t).view.emb (ix2 b n) = ix2 b n := by blk_ext [idx t]
  rw [hem]
  refine Eq.trans ?_ (T.v19 b (agree m c b) n)
  exact hX b n (by omega)

/-- Result window 20 after the run. -/
theorem final20 : ((rdat m c).withAfter after).arrAt 20 (cfgs 0).N = T.r20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((rdat m c).withAfter after).arrAt_eq_of_covers 20 _ (by decide +kernel) fun t hf y => ?_
  have hX := (dats m 0 c).toRRel_leaves (fgt := forgets0) (Rl := Rl m c) (by decide) (hL 20 t hf)
  obtain ⟨b, rfl⟩ := pt_surj t
  obtain ⟨z, n, k, rfl⟩ : ∃ (z : Fin 1) (n : Fin 640) (k : Fin 1536), y = ix3 z n k := ⟨y 0, y 1, y 2, eq_ix3 y⟩
  obtain rfl : z = 0 := Subsingleton.elim _ _
  have hem : ((cfg0.win 20).blk (pt b)).view.emb (ix3 0 n k) = ix3 b n k := by blk_ext [idx (pt b), pt_val b]
  rw [hem]
  refine Eq.trans ?_ (T.v20 b (agree m c b) n k)
  exact congrFun hX _

/-- Result window 21 after the run. -/
theorem final21 : ((rdat m c).withAfter after).arrAt 21 (cfgs 0).N = T.r21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((rdat m c).withAfter after).arrAt_eq_of_covers 21 _ (by decide +kernel) fun t hf y => ?_
  have hX := (dats m 0 c).toRRel_leaves (fgt := forgets0) (Rl := Rl m c) (by decide) (hL 21 t hf)
  have ht : t.val = 2 := by
    have h2 : ∀ t : Fin cfg0.N, (cfg0.win 21).flush t = true → t.val = 2 := (by decide +kernel : ∀ t : Fin grid0.N, _)
    exact h2 t hf
  obtain ⟨b, n, rfl⟩ : ∃ (b : Fin 3) (n : Fin 640), y = ix2 b n := ⟨y 0, y 1, eq_ix2 y⟩
  have hem : ((cfg0.win 21).blk t).view.emb (ix2 b n) = ix2 b n := by blk_ext [idx t]
  rw [hem]
  refine Eq.trans ?_ (T.v21 b (agree m c b) n)
  exact hX b n (by omega)

end

end Cert.TransitionIdeal.Hand

end

end
-- ==== Proof.TransitionRun.lean ====
/- The run of the `transition` call: what each result holds at the end. -/
module

public import proofs.«01_k».proof.Proof.TransVal
public import proofs.«01_k».proof.Proof.TransitionFinal
public import Idealize.ShloMosaic.Lib.Pipeline.ArrRel

@[expose] public section

set_option maxRecDepth 16384

noncomputable section

namespace Cert.TransitionIdeal.Hand

open Cert.Hand Cert.TransitionIdeal Cert.TransitionIdeal.Gen
open Idealize.ShloMosaic Idealize.ShloMosaic.TcCoe Idealize.ShloMosaic.Tactic
open Idealize.SL Idealize.SL.Sem
open Idealize.ShloMosaic.Pipeline (Dat RDat)

variable (m : (ℓ : Loc nD τ sig) → Buf (Elt Ideal) ℓ) (ρ : Dev nD → PrngReg)

/-- At the end of the run each result holds the stated function of the arguments. -/
theorem values {r : PUnit × MemSt nD τ sig (Elt Ideal)} (h : RDat.FramePost (cfgs 0) (rdat m) (V m) r) (c : Dev nD) :
    r.2.mem ((c.tc : Thread nD τ).loc main_v5_0) = T.r14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v5_1) = T.rAM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v5_2) = T.r16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v5_3) = T.r17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v5_4) = T.r18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v5_5) = T.r19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v5_6) = T.r20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v5_7) = T.r21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  obtain ⟨after, hL, hA⟩ := RDat.FramePost.exists_exact h c
  exact ⟨(hA 14).trans (final14 m hL), (hA 15).trans (final15 m hL), (hA 16).trans (final16 m hL), (hA 17).trans (final17 m hL), (hA 18).trans (final18 m hL), (hA 19).trans (final19 m hL), (hA 20).trans (final20 m hL), (hA 21).trans (final21 m hL)⟩

/-- At the end of the run the arguments are unchanged. -/
theorem kept {r : PUnit × MemSt nD τ sig (Elt Ideal)} (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      ((h c).2 main_arg3 (Pipeline.mem_restRefs_of main_arg3 (by decide) (by decide))).trans (V_main_arg3 m c),
      (Pipeline.RDat.FramePost.arr_in h c 4 rfl).trans ((A_eq m c 4).trans (V_main_arg4 m c)),
      (Pipeline.RDat.FramePost.arr_in h c 5 rfl).trans ((A_eq m c 5).trans (V_main_arg5 m c)),
      (Pipeline.RDat.FramePost.arr_in h c 6 rfl).trans ((A_eq m c 6).trans (V_main_arg6 m c)),
      ((h c).2 main_arg7 (Pipeline.mem_restRefs_of main_arg7 (by decide) (by decide))).trans (V_main_arg7 m c),
      (Pipeline.RDat.FramePost.arr_in h c 8 rfl).trans ((A_eq m c 8).trans (V_main_arg8 m c)),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      (Pipeline.RDat.FramePost.arr_in h c 11 rfl).trans ((A_eq m c 11).trans (V_main_arg11 m c)),
      (Pipeline.RDat.FramePost.arr_in h c 12 rfl).trans ((A_eq m c 12).trans (V_main_arg12 m c)),
      ((h c).2 main_arg13 (Pipeline.mem_restRefs_of main_arg13 (by decide) (by decide))).trans (V_main_arg13 m c)⟩

end Cert.TransitionIdeal.Hand

end

end
-- ==== Proof.TransitionRefFinal.lean ====
/- What the reference of the `transition` call leaves in each result, as a function of its arguments. -/
module

public import proofs.«01_k».proof.Proof.TransVal
public import proofs.«01_k».proof.Proof.Gen.TransitionRefIdeal.Frame

@[expose] public section

set_option maxRecDepth 16384

noncomputable section

namespace Cert.TransitionRefIdeal.Hand

open Cert.Hand Cert.TransitionRefIdeal Cert.TransitionRefIdeal.Gen
open Idealize.ShloMosaic Idealize.ShloMosaic.TcCoe Idealize.ShloMosaic.Tactic
open Idealize.SL Idealize.SL.Sem

variable (m : (ℓ : Loc nD τ sig) → Buf (Elt Ideal) ℓ)

/-- The block index of every window. -/
theorem idx : ∀ t : Fin cfg0.N, win0_0.index t = ![0, 0, 0, 0]
    ∧ win0_1.index t = ![0, 0, 0]
    ∧ win0_2.index t = ![0, 0, 0]
    ∧ win0_3.index t = ![0]
    ∧ win0_4.index t = ![0, 0, 0]
    ∧ win0_5.index t = ![0, 0]
    ∧ win0_6.index t = ![0, 0, 0]
    ∧ win0_7.index t = ![0]
    ∧ win0_8.index t = ![0, 0, 0]
    ∧ win0_9.index t = ![0]
    ∧ win0_10.index t = ![0, 0, 0]
    ∧ win0_11.index t = ![0, 0]
    ∧ win0_12.index t = ![0, 0]
    ∧ win0_13.index t = ![0]
    ∧ win0_14.index t = ![0, 0, 0]
    ∧ win0_15.index t = ![0, 0, 0]
    ∧ win0_16.index t = ![0, 0, 0, 0]
    ∧ win0_17.index t = ![0, 0]
    ∧ win0_18.index t = ![0, 0, 0]
    ∧ win0_19.index t = ![0, 0]
    ∧ win0_20.index t = ![0, 0, 0]
    ∧ win0_21.index t = ![0, 0] :=
  (by decide +kernel : ∀ t : Fin grid0.N, _)

/-- Window 0's block is its array. -/
theorem blk0 (c : Dev nD) (t : Fin cfg0.N) : iblk m c 0 t = m ((c : Thread nD τ).loc main_arg0) := by
  blk_ext! [iblk, V, idx t]

/-- Window 1's block is its array. -/
theorem blk1 (c : Dev nD) (t : Fin cfg0.N) : iblk m c 1 t = m ((c : Thread nD τ).loc main_arg1) := by
  blk_ext! [iblk, V, idx t]

/-- Window 2's block is its array. -/
theorem blk2 (c : Dev nD) (t : Fin cfg0.N) : iblk m c 2 t = m ((c : Thread nD τ).loc main_arg2) := by
  blk_ext! [iblk, V, idx t]

/-- Window 3's block is its array. -/
theorem blk3 (c : Dev nD) (t : Fin cfg0.N) : iblk m c 3 t = m ((c : Thread nD τ).loc main_arg3) := by
  blk_ext! [iblk, V, idx t]

/-- Window 4's block is its array. -/
theorem blk4 (c : Dev nD) (t : Fin cfg0.N) : iblk m c 4 t = m ((c : Thread nD τ).loc main_arg4) := by
  blk_ext! [iblk, V, idx t]

/-- Window 5's block is its array. -/
theorem blk5 (c : Dev nD) (t : Fin cfg0.N) : iblk m c 5 t = m ((c : Thread nD τ).loc main_arg5) := by
  blk_ext! [iblk, V, idx t]

/-- Window 6's block is its array. -/
theorem blk6 (c : Dev nD) (t : Fin cfg0.N) : iblk m c 6 t = m ((c : Thread nD τ).loc main_arg6) := by
  blk_ext! [iblk, V, idx t]

/-- Window 7's block is its array. -/
theorem blk7 (c : Dev nD) (t : Fin cfg0.N) : iblk m c 7 t = m ((c : Thread nD τ).loc main_arg7) := by
  blk_ext! [iblk, V, idx t]

/-- Window 8's block is its array. -/
theorem blk8 (c : Dev nD) (t : Fin cfg0.N) : iblk m c 8 t = m ((c : Thread nD τ).loc main_arg8) := by
  blk_ext! [iblk, V, idx t]

/-- Window 9's block is its array. -/
theorem blk9 (c : Dev nD) (t : Fin cfg0.N) : iblk m c 9 t = m ((c : Thread nD τ).loc main_arg9) := by
  blk_ext! [iblk, V, idx t]

/-- Window 10's block is its array. -/
theorem blk10 (c : Dev nD) (t : Fin cfg0.N) : iblk m c 10 t = m ((c : Thread nD τ).loc main_arg10) := by
  blk_ext! [iblk, V, idx t]

/-- Window 11's block is its array. -/
theorem blk11 (c : Dev nD) (t : Fin cfg0.N) : iblk m c 11 t = m ((c : Thread nD τ).loc main_arg11) := by
  blk_ext! [iblk, V, idx t]

/-- Window 12's block is its array. -/
theorem blk12 (c : Dev nD) (t : Fin cfg0.N) : iblk m c 12 t = m ((c : Thread nD τ).loc main_arg12) := by
  blk_ext! [iblk, V, idx t]

/-- Window 13's block is its array. -/
theorem blk13 (c : Dev nD) (t : Fin cfg0.N) : iblk m c 13 t = m ((c : Thread nD τ).loc main_arg13) := by
  blk_ext! [iblk, V, idx t]

/-- The value `k0_pay25` over whole arguments. -/
theorem p25 (X0 : Vec Ideal S3x16x48x640 .f32) (X1 : Vec Ideal S3x640x768 .bf16) (X2 : Vec Ideal S3x640x384 .bf16) (X3 : Vec Ideal S384 .f32) (X4 : Vec Ideal S384x2x768 .bf16) (X5 : Vec Ideal S2x768 .f32) (X6 : Vec Ideal S384x2x768 .bf16) (X7 : Vec Ideal S768 .f32) (X8 : Vec Ideal S16x48x768 .fp8e4m3) (X9 : Vec Ideal S768 .f32) (X10 : Vec Ideal S768x2x1536 .fp8e4m3) (X11 : Vec Ideal S2x1536 .f32) (X12 : Vec Ideal S1536x768 .fp8e4m3) (X13 : Vec Ideal S768 .f32) : k0_pay25 (F := Ideal) X0 X1 X2 X3 X4 X5 X6 X7 X8 X9 X10 X11 X12 X13 = k0_pay1 X1 := by
  unfold k0_pay25
  simp (discharger := decide) only [View.ld_unit_lit]

/-- The value `k0_pay27` over whole arguments. -/
theorem p27 (X0 : Vec Ideal S3x16x48x640 .f32) (X1 : Vec Ideal S3x640x768 .bf16) (X2 : Vec Ideal S3x640x384 .bf16) (X3 : Vec Ideal S384 .f32) (X4 : Vec Ideal S384x2x768 .bf16) (X5 : Vec Ideal S2x768 .f32) (X6 : Vec Ideal S384x2x768 .bf16) (X7 : Vec Ideal S768 .f32) (X8 : Vec Ideal S16x48x768 .fp8e4m3) (X9 : Vec Ideal S768 .f32) (X10 : Vec Ideal S768x2x1536 .fp8e4m3) (X11 : Vec Ideal S2x1536 .f32) (X12 : Vec Ideal S1536x768 .fp8e4m3) (X13 : Vec Ideal S768 .f32) : k0_pay27 (F := Ideal) X0 X1 X2 X3 X4 X5 X6 X7 X8 X9 X10 X11 X12 X13 = k0_pay7 X2 X4 := by
  unfold k0_pay27
  simp (discharger := decide) only [View.ld_unit_lit]

/-- The value `k0_pay28` over whole arguments. -/
theorem p28 (X0 : Vec Ideal S3x16x48x640 .f32) (X1 : Vec Ideal S3x640x768 .bf16) (X2 : Vec Ideal S3x640x384 .bf16) (X3 : Vec Ideal S384 .f32) (X4 : Vec Ideal S384x2x768 .bf16) (X5 : Vec Ideal S2x768 .f32) (X6 : Vec Ideal S384x2x768 .bf16) (X7 : Vec Ideal S768 .f32) (X8 : Vec Ideal S16x48x768 .fp8e4m3) (X9 : Vec Ideal S768 .f32) (X10 : Vec Ideal S768x2x1536 .fp8e4m3) (X11 : Vec Ideal S2x1536 .f32) (X12 : Vec Ideal S1536x768 .fp8e4m3) (X13 : Vec Ideal S768 .f32) : k0_pay28 (F := Ideal) X0 X1 X2 X3 X4 X5 X6 X7 X8 X9 X10 X11 X12 X13 = Cert.Hand.T.rAM X0 X1 X2 X3 X4 X5 X6 X7 X8 X9 X10 X11 X12 X13 := by
  unfold k0_pay28 k0_pay27 k0_pay26 k0_pay25 Cert.Hand.T.rAM
  simp (discharger := decide) only [View.ld_unit_lit]

/-- The value `k0_pay29` over whole arguments. -/
theorem p29 (X0 : Vec Ideal S3x16x48x640 .f32) (X1 : Vec Ideal S3x640x768 .bf16) (X2 : Vec Ideal S3x640x384 .bf16) (X3 : Vec Ideal S384 .f32) (X4 : Vec Ideal S384x2x768 .bf16) (X5 : Vec Ideal S2x768 .f32) (X6 : Vec Ideal S384x2x768 .bf16) (X7 : Vec Ideal S768 .f32) (X8 : Vec Ideal S16x48x768 .fp8e4m3) (X9 : Vec Ideal S768 .f32) (X10 : Vec Ideal S768x2x1536 .fp8e4m3) (X11 : Vec Ideal S2x1536 .f32) (X12 : Vec Ideal S1536x768 .fp8e4m3) (X13 : Vec Ideal S768 .f32) : k0_pay29 (F := Ideal) X0 X1 X2 X3 X4 X5 X6 X7 X8 X9 X10 X11 X12 X13 = k0_pay10 X2 := by
  unfold k0_pay29
  simp (discharger := decide) only [View.ld_unit_lit]

/-- The value `k0_pay30` over whole arguments. -/
theorem p30 (X0 : Vec Ideal S3x16x48x640 .f32) (X1 : Vec Ideal S3x640x768 .bf16) (X2 : Vec Ideal S3x640x384 .bf16) (X3 : Vec Ideal S384 .f32) (X4 : Vec Ideal S384x2x768 .bf16) (X5 : Vec Ideal S2x768 .f32) (X6 : Vec Ideal S384x2x768 .bf16) (X7 : Vec Ideal S768 .f32) (X8 : Vec Ideal S16x48x768 .fp8e4m3) (X9 : Vec Ideal S768 .f32) (X10 : Vec Ideal S768x2x1536 .fp8e4m3) (X11 : Vec Ideal S2x1536 .f32) (X12 : Vec Ideal S1536x768 .fp8e4m3) (X13 : Vec Ideal S768 .f32) : k0_pay30 (F := Ideal) X0 X1 X2 X3 X4 X5 X6 X7 X8 X9 X10 X11 X12 X13 = Cert.Hand.T.rLN X0 X1 X2 X3 X4 X5 X6 X7 X8 X9 X10 X11 X12 X13 := by
  unfold k0_pay30 k0_pay27 k0_pay26 k0_pay25 Cert.Hand.T.rLN
  simp (discharger := decide) only [View.ld_unit_lit]

/-- The value `k0_pay31` over whole arguments. -/
theorem p31 (X0 : Vec Ideal S3x16x48x640 .f32) (X1 : Vec Ideal S3x640x768 .bf16) (X2 : Vec Ideal S3x640x384 .bf16) (X3 : Vec Ideal S384 .f32) (X4 : Vec Ideal S384x2x768 .bf16) (X5 : Vec Ideal S2x768 .f32) (X6 : Vec Ideal S384x2x768 .bf16) (X7 : Vec Ideal S768 .f32) (X8 : Vec Ideal S16x48x768 .fp8e4m3) (X9 : Vec Ideal S768 .f32) (X10 : Vec Ideal S768x2x1536 .fp8e4m3) (X11 : Vec Ideal S2x1536 .f32) (X12 : Vec Ideal S1536x768 .fp8e4m3) (X13 : Vec Ideal S768 .f32) : k0_pay31 (F := Ideal) X0 X1 X2 X3 X4 X5 X6 X7 X8 X9 X10 X11 X12 X13 = Cert.Hand.T.rG X0 X1 X2 X3 X4 X5 X6 X7 X8 X9 X10 X11 X12 X13 := by
  unfold k0_pay31 Cert.Hand.T.rG
  rw [p29, p30]
  simp (discharger := decide) only [View.ld_unit_lit]

/-- The value `k0_pay32` over whole arguments. -/
theorem p32 (X0 : Vec Ideal S3x16x48x640 .f32) (X1 : Vec Ideal S3x640x768 .bf16) (X2 : Vec Ideal S3x640x384 .bf16) (X3 : Vec Ideal S384 .f32) (X4 : Vec Ideal S384x2x768 .bf16) (X5 : Vec Ideal S2x768 .f32) (X6 : Vec Ideal S384x2x768 .bf16) (X7 : Vec Ideal S768 .f32) (X8 : Vec Ideal S16x48x768 .fp8e4m3) (X9 : Vec Ideal S768 .f32) (X10 : Vec Ideal S768x2x1536 .fp8e4m3) (X11 : Vec Ideal S2x1536 .f32) (X12 : Vec Ideal S1536x768 .fp8e4m3) (X13 : Vec Ideal S768 .f32) : k0_pay32 (F := Ideal) X0 X1 X2 X3 X4 X5 X6 X7 X8 X9 X10 X11 X12 X13 = Cert.Hand.T.rU X0 X1 X2 X3 X4 X5 X6 X7 X8 X9 X10 X11 X12 X13 := by
  unfold k0_pay32 Cert.Hand.T.rU
  rw [p29, p30]
  simp (discharger := decide) only [View.ld_unit_lit]

/-- Result window 14 after the run. -/
theorem final14 (c : Dev nD) : (dats m 0 c).arrAt 14 (cfgs 0).N = Cert.Hand.T.r14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t hf y => ?_
  have e : ((cfg0.win 14).blk t).view.emb y = y := by blk_ext [idx t]
  rw [e]
  blk_simp
  rw [after0_14]
  frame_out
  simp only [blk0, blk1, blk2, blk3, blk4, blk5, blk6, blk7, blk8, blk9, blk10, blk11, blk12, blk13, p25, p27, p28, p29, p30, p31, p32]
  unfold Cert.Hand.T.r14
  rfl

/-- Result window 15 after the run. -/
theorem final15 (c : Dev nD) : (dats m 0 c).arrAt 15 (cfgs 0).N = Cert.Hand.T.rAM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 15 _ (by decide +kernel) fun t hf y => ?_
  have e : ((cfg0.win 15).blk t).view.emb y = y := by blk_ext [idx t]
  rw [e]
  blk_simp
  rw [after0_15]
  frame_out
  simp only [blk0, blk1, blk2, blk3, blk4, blk5, blk6, blk7, blk8, blk9, blk10, blk11, blk12, blk13, p25, p27, p28, p29, p30, p31, p32]
  try rfl

/-- Result window 16 after the run. -/
theorem final16 (c : Dev nD) : (dats m 0 c).arrAt 16 (cfgs 0).N = Cert.Hand.T.r16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 16 _ (by decide +kernel) fun t hf y => ?_
  have e : ((cfg0.win 16).blk t).view.emb y = y := by blk_ext [idx t]
  rw [e]
  blk_simp
  rw [after0_16]
  frame_out
  simp only [blk0, blk1, blk2, blk3, blk4, blk5, blk6, blk7, blk8, blk9, blk10, blk11, blk12, blk13, p25, p27, p28, p29, p30, p31, p32]
  unfold Cert.Hand.T.r16
  rfl

/-- Result window 17 after the run. -/
theorem final17 (c : Dev nD) : (dats m 0 c).arrAt 17 (cfgs 0).N = Cert.Hand.T.r17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 17 _ (by decide +kernel) fun t hf y => ?_
  have e : ((cfg0.win 17).blk t).view.emb y = y := by blk_ext [idx t]
  rw [e]
  blk_simp
  rw [after0_17]
  frame_out
  simp only [blk0, blk1, blk2, blk3, blk4, blk5, blk6, blk7, blk8, blk9, blk10, blk11, blk12, blk13, p25, p27, p28, p29, p30, p31, p32]
  unfold Cert.Hand.T.r17
  rfl

/-- Result window 18 after the run. -/
theorem final18 (c : Dev nD) : (dats m 0 c).arrAt 18 (cfgs 0).N = Cert.Hand.T.r18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 18 _ (by decide +kernel) fun t hf y => ?_
  have e : ((cfg0.win 18).blk t).view.emb y = y := by blk_ext [idx t]
  rw [e]
  blk_simp
  rw [after0_18]
  frame_out
  simp only [blk0, blk1, blk2, blk3, blk4, blk5, blk6, blk7, blk8, blk9, blk10, blk11, blk12, blk13, p25, p27, p28, p29, p30, p31, p32]
  unfold Cert.Hand.T.r18
  rfl

/-- Result window 19 after the run. -/
theorem final19 (c : Dev nD) : (dats m 0 c).arrAt 19 (cfgs 0).N = Cert.Hand.T.r19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 19 _ (by decide +kernel) fun t hf y => ?_
  have e : ((cfg0.win 19).blk t).view.emb y = y := by blk_ext [idx t]
  rw [e]
  blk_simp
  rw [after0_19]
  frame_out
  simp only [blk0, blk1, blk2, blk3, blk4, blk5, blk6, blk7, blk8, blk9, blk10, blk11, blk12, blk13, p25, p27, p28, p29, p30, p31, p32]
  unfold Cert.Hand.T.r19
  rfl

/-- Result window 20 after the run. -/
theorem final20 (c : Dev nD) : (dats m 0 c).arrAt 20 (cfgs 0).N = Cert.Hand.T.r20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 20 _ (by decide +kernel) fun t hf y => ?_
  have e : ((cfg0.win 20).blk t).view.emb y = y := by blk_ext [idx t]
  rw [e]
  blk_simp
  rw [after0_20]
  frame_out
  simp only [blk0, blk1, blk2, blk3, blk4, blk5, blk6, blk7, blk8, blk9, blk10, blk11, blk12, blk13, p25, p27, p28, p29, p30, p31, p32]
  unfold Cert.Hand.T.r20
  rfl

/-- Result window 21 after the run. -/
theorem final21 (c : Dev nD) : (dats m 0 c).arrAt 21 (cfgs 0).N = Cert.Hand.T.r21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 21 _ (by decide +kernel) fun t hf y => ?_
  have e : ((cfg0.win 21).blk t).view.emb y = y := by blk_ext [idx t]
  rw [e]
  blk_simp
  rw [after0_21]
  frame_out
  simp only [blk0, blk1, blk2, blk3, blk4, blk5, blk6, blk7, blk8, blk9, blk10, blk11, blk12, blk13, p25, p27, p28, p29, p30, p31, p32]
  unfold Cert.Hand.T.r21
  rfl

end Cert.TransitionRefIdeal.Hand

end

end
-- ==== Proof.TransitionRefRun.lean ====
/- What a run of the reference of the `transition` call leaves in every result and every argument. -/
module

public import proofs.«01_k».proof.Proof.TransitionRefFinal

@[expose] public section

set_option maxRecDepth 16384

noncomputable section

namespace Cert.TransitionRefIdeal.Hand

open Cert.Hand Cert.TransitionRefIdeal Cert.TransitionRefIdeal.Gen
open Idealize.ShloMosaic Idealize.ShloMosaic.TcCoe Idealize.ShloMosaic.Tactic
open Idealize.SL Idealize.SL.Sem

variable (m : (ℓ : Loc nD τ sig) → Buf (Elt Ideal) ℓ)

/-- At the end of the run every result is the reference's function of the arguments' contents. -/
theorem values {r : PUnit × MemSt nD τ sig (Elt Ideal)} (h : Pipeline.FramePost cfgs (dats m) 0 (V m) r) (c : Dev nD)
    {X0 : Vec Ideal TransitionRefIdeal.S3x16x48x640 .f32} {X1 : Vec Ideal TransitionRefIdeal.S3x640x768 .bf16} {X2 : Vec Ideal TransitionRefIdeal.S3x640x384 .bf16} {X3 : Vec Ideal TransitionRefIdeal.S384 .f32} {X4 : Vec Ideal TransitionRefIdeal.S384x2x768 .bf16} {X5 : Vec Ideal TransitionRefIdeal.S2x768 .f32} {X6 : Vec Ideal TransitionRefIdeal.S384x2x768 .bf16} {X7 : Vec Ideal TransitionRefIdeal.S768 .f32} {X8 : Vec Ideal TransitionRefIdeal.S16x48x768 .fp8e4m3} {X9 : Vec Ideal TransitionRefIdeal.S768 .f32} {X10 : Vec Ideal TransitionRefIdeal.S768x2x1536 .fp8e4m3} {X11 : Vec Ideal TransitionRefIdeal.S2x1536 .f32} {X12 : Vec Ideal TransitionRefIdeal.S1536x768 .fp8e4m3} {X13 : Vec Ideal TransitionRefIdeal.S768 .f32}
    (h0 : m ((c : Thread nD τ).loc main_arg0) = X0) (h1 : m ((c : Thread nD τ).loc main_arg1) = X1) (h2 : m ((c : Thread nD τ).loc main_arg2) = X2) (h3 : m ((c : Thread nD τ).loc main_arg3) = X3) (h4 : m ((c : Thread nD τ).loc main_arg4) = X4) (h5 : m ((c : Thread nD τ).loc main_arg5) = X5) (h6 : m ((c : Thread nD τ).loc main_arg6) = X6) (h7 : m ((c : Thread nD τ).loc main_arg7) = X7) (h8 : m ((c : Thread nD τ).loc main_arg8) = X8) (h9 : m ((c : Thread nD τ).loc main_arg9) = X9) (h10 : m ((c : Thread nD τ).loc main_arg10) = X10) (h11 : m ((c : Thread nD τ).loc main_arg11) = X11) (h12 : m ((c : Thread nD τ).loc main_arg12) = X12) (h13 : m ((c : Thread nD τ).loc main_arg13) = X13) :
    r.2.mem ((c.tc : Thread nD τ).loc main_v0_0) = Cert.Hand.T.r14 X0 X1 X2 X3 X4 X5 X6 X7 X8 X9 X10 X11 X12 X13
      ∧ r.2.mem ((c.tc : Thread nD τ).loc main_v0_1) = Cert.Hand.T.rAM X0 X1 X2 X3 X4 X5 X6 X7 X8 X9 X10 X11 X12 X13
      ∧ r.2.mem ((c.tc : Thread nD τ).loc main_v0_2) = Cert.Hand.T.r16 X0 X1 X2 X3 X4 X5 X6 X7 X8 X9 X10 X11 X12 X13
      ∧ r.2.mem ((c.tc : Thread nD τ).loc main_v0_3) = Cert.Hand.T.r17 X0 X1 X2 X3 X4 X5 X6 X7 X8 X9 X10 X11 X12 X13
      ∧ r.2.mem ((c.tc : Thread nD τ).loc main_v0_4) = Cert.Hand.T.r18 X0 X1 X2 X3 X4 X5 X6 X7 X8 X9 X10 X11 X12 X13
      ∧ r.2.mem ((c.tc : Thread nD τ).loc main_v0_5) = Cert.Hand.T.r19 X0 X1 X2 X3 X4 X5 X6 X7 X8 X9 X10 X11 X12 X13
      ∧ r.2.mem ((c.tc : Thread nD τ).loc main_v0_6) = Cert.Hand.T.r20 X0 X1 X2 X3 X4 X5 X6 X7 X8 X9 X10 X11 X12 X13
      ∧ r.2.mem ((c.tc : Thread nD τ).loc main_v0_7) = Cert.Hand.T.r21 X0 X1 X2 X3 X4 X5 X6 X7 X8 X9 X10 X11 X12 X13 := by
  subst h0 h1 h2 h3 h4 h5 h6 h7 h8 h9 h10 h11 h12 h13
  exact ⟨((h c).1 14).trans (final14 m c), ((h c).1 15).trans (final15 m c), ((h c).1 16).trans (final16 m c), ((h c).1 17).trans (final17 m c), ((h c).1 18).trans (final18 m c), ((h c).1 19).trans (final19 m c), ((h c).1 20).trans (final20 m c), ((h c).1 21).trans (final21 m c)⟩

/-- At the end of the run the arguments are unchanged. -/
theorem kept {r : PUnit × MemSt nD τ sig (Elt Ideal)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c)))⟩

end Cert.TransitionRefIdeal.Hand

end
-- ==== Proof.lean ====
/- The proof of the certificate's claims: every claim from the run of its program. -/
module

public import proofs.«01_k».proof.Defs
public import proofs.«01_k».proof.Proof.TransitionBitsFrame
public import proofs.«01_k».proof.Proof.TransitionRun
public import proofs.«01_k».proof.Proof.TransitionRefRun
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The `transition` call and its reference end with equal results. -/
theorem transition_algebraic : Cert.algebraic_TransitionIdeal_TransitionRefIdeal (hTransitionIdeal := Cert.TransitionIdeal.Gen.facts) (hTransitionRefIdeal := Cert.TransitionRefIdeal.Gen.facts) := by
  intro m g m' g' hpre hagree
  refine ⟨fun c => Cert.Hand.T.r14 (m ((c.tc : Thread Cert.TransitionIdeal.nD Cert.TransitionIdeal.τ).loc Cert.TransitionIdeal.main_arg0)) (m ((c.tc : Thread Cert.TransitionIdeal.nD Cert.TransitionIdeal.τ).loc Cert.TransitionIdeal.main_arg1)) (m ((c.tc : Thread Cert.TransitionIdeal.nD Cert.TransitionIdeal.τ).loc Cert.TransitionIdeal.main_arg2)) (m ((c.tc : Thread Cert.TransitionIdeal.nD Cert.TransitionIdeal.τ).loc Cert.TransitionIdeal.main_arg3)) (m ((c.tc : Thread Cert.TransitionIdeal.nD Cert.TransitionIdeal.τ).loc Cert.TransitionIdeal.main_arg4)) (m ((c.tc : Thread Cert.TransitionIdeal.nD Cert.TransitionIdeal.τ).loc Cert.TransitionIdeal.main_arg5)) (m ((c.tc : Thread Cert.TransitionIdeal.nD Cert.TransitionIdeal.τ).loc Cert.TransitionIdeal.main_arg6)) (m ((c.tc : Thread Cert.TransitionIdeal.nD Cert.TransitionIdeal.τ).loc Cert.TransitionIdeal.main_arg7)) (m ((c.tc : Thread Cert.TransitionIdeal.nD Cert.TransitionIdeal.τ).loc Cert.TransitionIdeal.main_arg8)) (m ((c.tc : Thread Cert.TransitionIdeal.nD Cert.TransitionIdeal.τ).loc Cert.TransitionIdeal.main_arg9)) (m ((c.tc : Thread Cert.TransitionIdeal.nD Cert.TransitionIdeal.τ).loc Cert.TransitionIdeal.main_arg10)) (m ((c.tc : Thread Cert.TransitionIdeal.nD Cert.TransitionIdeal.τ).loc Cert.TransitionIdeal.main_arg11)) (m ((c.tc : Thread Cert.TransitionIdeal.nD Cert.TransitionIdeal.τ).loc Cert.TransitionIdeal.main_arg12)) (m ((c.tc : Thread Cert.TransitionIdeal.nD Cert.TransitionIdeal.τ).loc Cert.TransitionIdeal.main_arg13)),
    fun c => Cert.Hand.T.rAM (m ((c.tc : Thread Cert.TransitionIdeal.nD Cert.TransitionIdeal.τ).loc Cert.TransitionIdeal.main_arg0)) (m ((c.tc : Thread Cert.TransitionIdeal.nD Cert.TransitionIdeal.τ).loc Cert.TransitionIdeal.main_arg1)) (m ((c.tc : Thread Cert.TransitionIdeal.nD Cert.TransitionIdeal.τ).loc Cert.TransitionIdeal.main_arg2)) (m ((c.tc : Thread Cert.TransitionIdeal.nD Cert.TransitionIdeal.τ).loc Cert.TransitionIdeal.main_arg3)) (m ((c.tc : Thread Cert.TransitionIdeal.nD Cert.TransitionIdeal.τ).loc Cert.TransitionIdeal.main_arg4)) (m ((c.tc : Thread Cert.TransitionIdeal.nD Cert.TransitionIdeal.τ).loc Cert.TransitionIdeal.main_arg5)) (m ((c.tc : Thread Cert.TransitionIdeal.nD Cert.TransitionIdeal.τ).loc Cert.TransitionIdeal.main_arg6)) (m ((c.tc : Thread Cert.TransitionIdeal.nD Cert.TransitionIdeal.τ).loc Cert.TransitionIdeal.main_arg7)) (m ((c.tc : Thread Cert.TransitionIdeal.nD Cert.TransitionIdeal.τ).loc Cert.TransitionIdeal.main_arg8)) (m ((c.tc : Thread Cert.TransitionIdeal.nD Cert.TransitionIdeal.τ).loc Cert.TransitionIdeal.main_arg9)) (m ((c.tc : Thread Cert.TransitionIdeal.nD Cert.TransitionIdeal.τ).loc Cert.TransitionIdeal.main_arg10)) (m ((c.tc : Thread Cert.TransitionIdeal.nD Cert.TransitionIdeal.τ).loc Cert.TransitionIdeal.main_arg11)) (m ((c.tc : Thread Cert.TransitionIdeal.nD Cert.TransitionIdeal.τ).loc Cert.TransitionIdeal.main_arg12)) (m ((c.tc : Thread Cert.TransitionIdeal.nD Cert.TransitionIdeal.τ).loc Cert.TransitionIdeal.main_arg13)),
    fun c => Cert.Hand.T.r16 (m ((c.tc : Thread Cert.TransitionIdeal.nD Cert.TransitionIdeal.τ).loc Cert.TransitionIdeal.main_arg0)) (m ((c.tc : Thread Cert.TransitionIdeal.nD Cert.TransitionIdeal.τ).loc Cert.TransitionIdeal.main_arg1)) (m ((c.tc : Thread Cert.TransitionIdeal.nD Cert.TransitionIdeal.τ).loc Cert.TransitionIdeal.main_arg2)) (m ((c.tc : Thread Cert.TransitionIdeal.nD Cert.TransitionIdeal.τ).loc Cert.TransitionIdeal.main_arg3)) (m ((c.tc : Thread Cert.TransitionIdeal.nD Cert.TransitionIdeal.τ).loc Cert.TransitionIdeal.main_arg4)) (m ((c.tc : Thread Cert.TransitionIdeal.nD Cert.TransitionIdeal.τ).loc Cert.TransitionIdeal.main_arg5)) (m ((c.tc : Thread Cert.TransitionIdeal.nD Cert.TransitionIdeal.τ).loc Cert.TransitionIdeal.main_arg6)) (m ((c.tc : Thread Cert.TransitionIdeal.nD Cert.TransitionIdeal.τ).loc Cert.TransitionIdeal.main_arg7)) (m ((c.tc : Thread Cert.TransitionIdeal.nD Cert.TransitionIdeal.τ).loc Cert.TransitionIdeal.main_arg8)) (m ((c.tc : Thread Cert.TransitionIdeal.nD Cert.TransitionIdeal.τ).loc Cert.TransitionIdeal.main_arg9)) (m ((c.tc : Thread Cert.TransitionIdeal.nD Cert.TransitionIdeal.τ).loc Cert.TransitionIdeal.main_arg10)) (m ((c.tc : Thread Cert.TransitionIdeal.nD Cert.TransitionIdeal.τ).loc Cert.TransitionIdeal.main_arg11)) (m ((c.tc : Thread Cert.TransitionIdeal.nD Cert.TransitionIdeal.τ).loc Cert.TransitionIdeal.main_arg12)) (m ((c.tc : Thread Cert.TransitionIdeal.nD Cert.TransitionIdeal.τ).loc Cert.TransitionIdeal.main_arg13)),
    fun c => Cert.Hand.T.r17 (m ((c.tc : Thread Cert.TransitionIdeal.nD Cert.TransitionIdeal.τ).loc Cert.TransitionIdeal.main_arg0)) (m ((c.tc : Thread Cert.TransitionIdeal.nD Cert.TransitionIdeal.τ).loc Cert.TransitionIdeal.main_arg1)) (m ((c.tc : Thread Cert.TransitionIdeal.nD Cert.TransitionIdeal.τ).loc Cert.TransitionIdeal.main_arg2)) (m ((c.tc : Thread Cert.TransitionIdeal.nD Cert.TransitionIdeal.τ).loc Cert.TransitionIdeal.main_arg3)) (m ((c.tc : Thread Cert.TransitionIdeal.nD Cert.TransitionIdeal.τ).loc Cert.TransitionIdeal.main_arg4)) (m ((c.tc : Thread Cert.TransitionIdeal.nD Cert.TransitionIdeal.τ).loc Cert.TransitionIdeal.main_arg5)) (m ((c.tc : Thread Cert.TransitionIdeal.nD Cert.TransitionIdeal.τ).loc Cert.TransitionIdeal.main_arg6)) (m ((c.tc : Thread Cert.TransitionIdeal.nD Cert.TransitionIdeal.τ).loc Cert.TransitionIdeal.main_arg7)) (m ((c.tc : Thread Cert.TransitionIdeal.nD Cert.TransitionIdeal.τ).loc Cert.TransitionIdeal.main_arg8)) (m ((c.tc : Thread Cert.TransitionIdeal.nD Cert.TransitionIdeal.τ).loc Cert.TransitionIdeal.main_arg9)) (m ((c.tc : Thread Cert.TransitionIdeal.nD Cert.TransitionIdeal.τ).loc Cert.TransitionIdeal.main_arg10)) (m ((c.tc : Thread Cert.TransitionIdeal.nD Cert.TransitionIdeal.τ).loc Cert.TransitionIdeal.main_arg11)) (m ((c.tc : Thread Cert.TransitionIdeal.nD Cert.TransitionIdeal.τ).loc Cert.TransitionIdeal.main_arg12)) (m ((c.tc : Thread Cert.TransitionIdeal.nD Cert.TransitionIdeal.τ).loc Cert.TransitionIdeal.main_arg13)),
    fun c => Cert.Hand.T.r18 (m ((c.tc : Thread Cert.TransitionIdeal.nD Cert.TransitionIdeal.τ).loc Cert.TransitionIdeal.main_arg0)) (m ((c.tc : Thread Cert.TransitionIdeal.nD Cert.TransitionIdeal.τ).loc Cert.TransitionIdeal.main_arg1)) (m ((c.tc : Thread Cert.TransitionIdeal.nD Cert.TransitionIdeal.τ).loc Cert.TransitionIdeal.main_arg2)) (m ((c.tc : Thread Cert.TransitionIdeal.nD Cert.TransitionIdeal.τ).loc Cert.TransitionIdeal.main_arg3)) (m ((c.tc : Thread Cert.TransitionIdeal.nD Cert.TransitionIdeal.τ).loc Cert.TransitionIdeal.main_arg4)) (m ((c.tc : Thread Cert.TransitionIdeal.nD Cert.TransitionIdeal.τ).loc Cert.TransitionIdeal.main_arg5)) (m ((c.tc : Thread Cert.TransitionIdeal.nD Cert.TransitionIdeal.τ).loc Cert.TransitionIdeal.main_arg6)) (m ((c.tc : Thread Cert.TransitionIdeal.nD Cert.TransitionIdeal.τ).loc Cert.TransitionIdeal.main_arg7)) (m ((c.tc : Thread Cert.TransitionIdeal.nD Cert.TransitionIdeal.τ).loc Cert.TransitionIdeal.main_arg8)) (m ((c.tc : Thread Cert.TransitionIdeal.nD Cert.TransitionIdeal.τ).loc Cert.TransitionIdeal.main_arg9)) (m ((c.tc : Thread Cert.TransitionIdeal.nD Cert.TransitionIdeal.τ).loc Cert.TransitionIdeal.main_arg10)) (m ((c.tc : Thread Cert.TransitionIdeal.nD Cert.TransitionIdeal.τ).loc Cert.TransitionIdeal.main_arg11)) (m ((c.tc : Thread Cert.TransitionIdeal.nD Cert.TransitionIdeal.τ).loc Cert.TransitionIdeal.main_arg12)) (m ((c.tc : Thread Cert.TransitionIdeal.nD Cert.TransitionIdeal.τ).loc Cert.TransitionIdeal.main_arg13)),
    fun c => Cert.Hand.T.r19 (m ((c.tc : Thread Cert.TransitionIdeal.nD Cert.TransitionIdeal.τ).loc Cert.TransitionIdeal.main_arg0)) (m ((c.tc : Thread Cert.TransitionIdeal.nD Cert.TransitionIdeal.τ).loc Cert.TransitionIdeal.main_arg1)) (m ((c.tc : Thread Cert.TransitionIdeal.nD Cert.TransitionIdeal.τ).loc Cert.TransitionIdeal.main_arg2)) (m ((c.tc : Thread Cert.TransitionIdeal.nD Cert.TransitionIdeal.τ).loc Cert.TransitionIdeal.main_arg3)) (m ((c.tc : Thread Cert.TransitionIdeal.nD Cert.TransitionIdeal.τ).loc Cert.TransitionIdeal.main_arg4)) (m ((c.tc : Thread Cert.TransitionIdeal.nD Cert.TransitionIdeal.τ).loc Cert.TransitionIdeal.main_arg5)) (m ((c.tc : Thread Cert.TransitionIdeal.nD Cert.TransitionIdeal.τ).loc Cert.TransitionIdeal.main_arg6)) (m ((c.tc : Thread Cert.TransitionIdeal.nD Cert.TransitionIdeal.τ).loc Cert.TransitionIdeal.main_arg7)) (m ((c.tc : Thread Cert.TransitionIdeal.nD Cert.TransitionIdeal.τ).loc Cert.TransitionIdeal.main_arg8)) (m ((c.tc : Thread Cert.TransitionIdeal.nD Cert.TransitionIdeal.τ).loc Cert.TransitionIdeal.main_arg9)) (m ((c.tc : Thread Cert.TransitionIdeal.nD Cert.TransitionIdeal.τ).loc Cert.TransitionIdeal.main_arg10)) (m ((c.tc : Thread Cert.TransitionIdeal.nD Cert.TransitionIdeal.τ).loc Cert.TransitionIdeal.main_arg11)) (m ((c.tc : Thread Cert.TransitionIdeal.nD Cert.TransitionIdeal.τ).loc Cert.TransitionIdeal.main_arg12)) (m ((c.tc : Thread Cert.TransitionIdeal.nD Cert.TransitionIdeal.τ).loc Cert.TransitionIdeal.main_arg13)),
    fun c => Cert.Hand.T.r20 (m ((c.tc : Thread Cert.TransitionIdeal.nD Cert.TransitionIdeal.τ).loc Cert.TransitionIdeal.main_arg0)) (m ((c.tc : Thread Cert.TransitionIdeal.nD Cert.TransitionIdeal.τ).loc Cert.TransitionIdeal.main_arg1)) (m ((c.tc : Thread Cert.TransitionIdeal.nD Cert.TransitionIdeal.τ).loc Cert.TransitionIdeal.main_arg2)) (m ((c.tc : Thread Cert.TransitionIdeal.nD Cert.TransitionIdeal.τ).loc Cert.TransitionIdeal.main_arg3)) (m ((c.tc : Thread Cert.TransitionIdeal.nD Cert.TransitionIdeal.τ).loc Cert.TransitionIdeal.main_arg4)) (m ((c.tc : Thread Cert.TransitionIdeal.nD Cert.TransitionIdeal.τ).loc Cert.TransitionIdeal.main_arg5)) (m ((c.tc : Thread Cert.TransitionIdeal.nD Cert.TransitionIdeal.τ).loc Cert.TransitionIdeal.main_arg6)) (m ((c.tc : Thread Cert.TransitionIdeal.nD Cert.TransitionIdeal.τ).loc Cert.TransitionIdeal.main_arg7)) (m ((c.tc : Thread Cert.TransitionIdeal.nD Cert.TransitionIdeal.τ).loc Cert.TransitionIdeal.main_arg8)) (m ((c.tc : Thread Cert.TransitionIdeal.nD Cert.TransitionIdeal.τ).loc Cert.TransitionIdeal.main_arg9)) (m ((c.tc : Thread Cert.TransitionIdeal.nD Cert.TransitionIdeal.τ).loc Cert.TransitionIdeal.main_arg10)) (m ((c.tc : Thread Cert.TransitionIdeal.nD Cert.TransitionIdeal.τ).loc Cert.TransitionIdeal.main_arg11)) (m ((c.tc : Thread Cert.TransitionIdeal.nD Cert.TransitionIdeal.τ).loc Cert.TransitionIdeal.main_arg12)) (m ((c.tc : Thread Cert.TransitionIdeal.nD Cert.TransitionIdeal.τ).loc Cert.TransitionIdeal.main_arg13)),
    fun c => Cert.Hand.T.r21 (m ((c.tc : Thread Cert.TransitionIdeal.nD Cert.TransitionIdeal.τ).loc Cert.TransitionIdeal.main_arg0)) (m ((c.tc : Thread Cert.TransitionIdeal.nD Cert.TransitionIdeal.τ).loc Cert.TransitionIdeal.main_arg1)) (m ((c.tc : Thread Cert.TransitionIdeal.nD Cert.TransitionIdeal.τ).loc Cert.TransitionIdeal.main_arg2)) (m ((c.tc : Thread Cert.TransitionIdeal.nD Cert.TransitionIdeal.τ).loc Cert.TransitionIdeal.main_arg3)) (m ((c.tc : Thread Cert.TransitionIdeal.nD Cert.TransitionIdeal.τ).loc Cert.TransitionIdeal.main_arg4)) (m ((c.tc : Thread Cert.TransitionIdeal.nD Cert.TransitionIdeal.τ).loc Cert.TransitionIdeal.main_arg5)) (m ((c.tc : Thread Cert.TransitionIdeal.nD Cert.TransitionIdeal.τ).loc Cert.TransitionIdeal.main_arg6)) (m ((c.tc : Thread Cert.TransitionIdeal.nD Cert.TransitionIdeal.τ).loc Cert.TransitionIdeal.main_arg7)) (m ((c.tc : Thread Cert.TransitionIdeal.nD Cert.TransitionIdeal.τ).loc Cert.TransitionIdeal.main_arg8)) (m ((c.tc : Thread Cert.TransitionIdeal.nD Cert.TransitionIdeal.τ).loc Cert.TransitionIdeal.main_arg9)) (m ((c.tc : Thread Cert.TransitionIdeal.nD Cert.TransitionIdeal.τ).loc Cert.TransitionIdeal.main_arg10)) (m ((c.tc : Thread Cert.TransitionIdeal.nD Cert.TransitionIdeal.τ).loc Cert.TransitionIdeal.main_arg11)) (m ((c.tc : Thread Cert.TransitionIdeal.nD Cert.TransitionIdeal.τ).loc Cert.TransitionIdeal.main_arg12)) (m ((c.tc : Thread Cert.TransitionIdeal.nD Cert.TransitionIdeal.τ).loc Cert.TransitionIdeal.main_arg13)), ?_, ?_⟩
  · refine (θ_run _ _ _).mono (fun r h c => ?_) (Cert.TransitionIdeal.Hand.run_main m g)
    have hv := Cert.TransitionIdeal.Hand.values m h c
    have hk := Cert.TransitionIdeal.Hand.kept m h c
    exact ⟨hv.1, hv.2.1, hv.2.2.1, hv.2.2.2.1, hv.2.2.2.2.1, hv.2.2.2.2.2.1, hv.2.2.2.2.2.2.1, hv.2.2.2.2.2.2.2, hk⟩
  · refine (θ_run _ _ _).mono (fun r h c => ?_) (Cert.TransitionRefIdeal.Gen.run_main m' g')
    obtain ⟨h0, h1, h2, h3, h4, h5, h6, h7, h8, h9, h10, h11, h12, h13⟩ := hagree c
    have hv := Cert.TransitionRefIdeal.Hand.values m' h c h0 h1 h2 h3 h4 h5 h6 h7 h8 h9 h10 h11 h12 h13
    have hk := Cert.TransitionRefIdeal.Hand.kept m' h c
    exact ⟨hv.1, hv.2.1, hv.2.2.1, hv.2.2.2.1, hv.2.2.2.2.1, hv.2.2.2.2.2.1, hv.2.2.2.2.2.2.1, hv.2.2.2.2.2.2.2, hk⟩

/-- All claims. -/
theorem claim : Cert.Claim := ⟨Cert.Transition.Gen.facts, Cert.TransitionIdeal.Gen.facts, Cert.TransitionRefIdeal.Gen.facts,
  fun m g _ => Cert.Transition.Hand.frame m g,
  fun m g _ => Cert.TransitionIdeal.Hand.frame m g,
  fun m g _ => Cert.TransitionRefIdeal.Gen.frame m g,
  trivial,
  transition_algebraic⟩

end Cert.Proof

end
